-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite_KernelIdeal [hPre_routed_and_finite_KernelIdeal : Cert.Pre_routed_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite_ReferenceIdeal [hPre_routed_and_finite_ReferenceIdeal : Cert.Pre_routed_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_and_finite_KernelIdeal [hKernelIdeal : Cert.KernelIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_and_finite_ReferenceIdeal [hReferenceIdeal : Cert.ReferenceIdeal.Facts] [hPre_routed_and_finite_ReferenceIdeal : Cert.Pre_routed_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_and_finite_KernelIdeal [hKernelIdeal : Cert.KernelIdeal.Facts] [hReferenceIdeal : Cert.ReferenceIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_and_finite_KernelIdeal : Cert.Pre_routed_and_finite_KernelIdeal.Facts) (hPre_routed_and_finite_ReferenceIdeal : Cert.Pre_routed_and_finite_ReferenceIdeal.Facts),
    quiescent_Kernel (hKernel := hKernel)
    ∧ quiescent_KernelIdeal (hKernelIdeal := hKernelIdeal)
    ∧ quiescent_KernelIdeal_pre_routed_and_finite_KernelIdeal (hKernelIdeal := hKernelIdeal) (hPre_routed_and_finite_KernelIdeal := hPre_routed_and_finite_KernelIdeal)
    ∧ quiescent_ReferenceIdeal (hReferenceIdeal := hReferenceIdeal)
    ∧ quiescent_ReferenceIdeal_pre_routed_and_finite_ReferenceIdeal (hReferenceIdeal := hReferenceIdeal) (hPre_routed_and_finite_ReferenceIdeal := hPre_routed_and_finite_ReferenceIdeal)
    ∧ preserves_Kernel_KernelIdeal
    ∧ algebraic_KernelIdeal_ReferenceIdeal_pre_routed_and_finite_KernelIdeal (hKernelIdeal := hKernelIdeal) (hReferenceIdeal := hReferenceIdeal) (hPre_routed_and_finite_KernelIdeal := hPre_routed_and_finite_KernelIdeal)
-- ==== Pre_routed_and_finite_KernelIdeal.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x1 : S_.BroadcastsInDim S512x1 (![] : Fin 0 → Fin S512x1.rank)
  bcast_S_S512x256 : S_.BroadcastsInDim S512x256 (![] : Fin 0 → Fin S512x256.rank)
  bcast_S512x1_S512x256_0_1 : S512x1.BroadcastsInDim S512x256 (![0, 1] : Fin 2 → Fin S512x256.rank)
  bcast_S_S256x32 : S_.BroadcastsInDim S256x32 (![] : Fin 0 → Fin S256x32.rank)
  reducesTo_S256x32_S_d0_1 : S256x32.ReducesTo [0, 1] S_
  h_S_ : 0 < S_.numel

variable [Facts]

def fn {F : FTy → Type} [FloatOps F] (main_arg0 : FVec F S512x256 .bf16) (main_arg1 : FVec F S256x32 .bf16) (main_arg2 : IVec S512x1 32) (main_arg3 : FVec F S2x256x512 .bf16) (main_arg4 : FVec F S256x512 .bf16) : IVec S512x256 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_v5 : FVec F S512x256 .bf16 := Host.absf main_arg0
  let main_cst : FVec F S_ .bf16 := constant S_ .bf16 0x7F80#16
  let main_v6 : FVec F S512x256 .bf16 := broadcastInDim S512x256 ![] bcast_S_S512x256 main_cst
  let main_v7 : IVec S512x256 1 := cmpf .olt main_v5 main_v6
  let main_v8 : IVec S512x256 1 := broadcastInDim S512x256 ![0, 1] bcast_S512x1_S512x256_0_1 main_v4
  let main_v9 : IVec S512x256 1 := andi main_v8 main_v7
  let main_v10 : FVec F S256x32 .bf16 := Host.absf main_arg1
  let main_cst_1 : FVec F S_ .bf16 := constant S_ .bf16 0x7F80#16
  let main_v11 : FVec F S256x32 .bf16 := broadcastInDim S256x32 ![] bcast_S_S256x32 main_cst_1
  let main_v12 : IVec S256x32 1 := cmpf .olt main_v10 main_v11
  let main_c_2 : IVec S_ 1 := constantI S_ 1 1#1
  let main_v13 : IVec S_ 1 := (fun x v => Host.reduce IntOp.andi x v reducesTo_S256x32_S_d0_1 h_S_) main_v12 main_c_2
  let main_v14 : IVec S512x256 1 := broadcastInDim S512x256 ![] bcast_S_S512x256 main_v13
  let main_v15 : IVec S512x256 1 := andi main_v9 main_v14
  main_v15
-- ==== Pre_routed_and_finite_ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S_ : Shape := ⟨0, ![]⟩

class Facts : Prop where
  bcast_S_S512x1 : S_.BroadcastsInDim S512x1 (![] : Fin 0 → Fin S512x1.rank)
  bcast_S_S512x256 : S_.BroadcastsInDim S512x256 (![] : Fin 0 → Fin S512x256.rank)
  bcast_S512x1_S512x256_0_1 : S512x1.BroadcastsInDim S512x256 (![0, 1] : Fin 2 → Fin S512x256.rank)
  bcast_S_S256x32 : S_.BroadcastsInDim S256x32 (![] : Fin 0 → Fin S256x32.rank)
  reducesTo_S256x32_S_d0_1 : S256x32.ReducesTo [0, 1] S_
  h_S_ : 0 < S_.numel

variable [Facts]

def fn {F : FTy → Type} [FloatOps F] (main_arg0 : FVec F S512x256 .bf16) (main_arg1 : FVec F S256x32 .bf16) (main_arg2 : IVec S512x1 32) (main_arg3 : FVec F S32x256x512 .bf16) (main_arg4 : FVec F S256x512 .bf16) : IVec S512x256 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_v5 : FVec F S512x256 .bf16 := Host.absf main_arg0
  let main_cst : FVec F S_ .bf16 := constant S_ .bf16 0x7F80#16
  let main_v6 : FVec F S512x256 .bf16 := broadcastInDim S512x256 ![] bcast_S_S512x256 main_cst
  let main_v7 : IVec S512x256 1 := cmpf .olt main_v5 main_v6
  let main_v8 : IVec S512x256 1 := broadcastInDim S512x256 ![0, 1] bcast_S512x1_S512x256_0_1 main_v4
  let main_v9 : IVec S512x256 1 := andi main_v8 main_v7
  let main_v10 : FVec F S256x32 .bf16 := Host.absf main_arg1
  let main_cst_1 : FVec F S_ .bf16 := constant S_ .bf16 0x7F80#16
  let main_v11 : FVec F S256x32 .bf16 := broadcastInDim S256x32 ![] bcast_S_S256x32 main_cst_1
  let main_v12 : IVec S256x32 1 := cmpf .olt main_v10 main_v11
  let main_c_2 : IVec S_ 1 := constantI S_ 1 1#1
  let main_v13 : IVec S_ 1 := (fun x v => Host.reduce IntOp.andi x v reducesTo_S256x32_S_d0_1 h_S_) main_v12 main_c_2
  let main_v14 : IVec S512x256 1 := broadcastInDim S512x256 ![] bcast_S_S512x256 main_v13
  let main_v15 : IVec S512x256 1 := andi main_v9 main_v14
  main_v15
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S256x512 : Shape := ⟨2, ![256, 512]⟩
abbrev S32x512 : Shape := ⟨2, ![32, 512]⟩
abbrev S512x512 : Shape := ⟨2, ![512, 512]⟩
abbrev S16x32x512 : Shape := ⟨3, ![16, 32, 512]⟩
abbrev S16 : Shape := ⟨1, ![16]⟩
abbrev S_ : Shape := ⟨0, ![]⟩
abbrev S512x32 : Shape := ⟨2, ![512, 32]⟩
abbrev S512 : Shape := ⟨1, ![512]⟩
abbrev S128x512 : Shape := ⟨2, ![128, 512]⟩
abbrev S1 : Shape := ⟨1, ![1]⟩
abbrev S1x32x512 : Shape := ⟨3, ![1, 32, 512]⟩
abbrev S32x256 : Shape := ⟨2, ![32, 256]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S2x256x512, .bf16⟩
  | .hbm, ⟨4, _⟩ => ⟨S256x512, .bf16⟩
  | .hbm, ⟨5, _⟩ => ⟨S32x512, .f32⟩
  | .local _ .vmem, ⟨0, _⟩ => ⟨S512x256, .bf16⟩
  | .local _ .vmem, ⟨1, _⟩ => ⟨S256x32, .bf16⟩
  | .local _ .vmem, ⟨2, _⟩ => ⟨S512x1, .i32⟩
  | .local _ .vmem, ⟨3, _⟩ => ⟨S2x256x512, .bf16⟩
  | .local _ .vmem, ⟨4, _⟩ => ⟨S256x512, .bf16⟩
  | .local _ .vmem, ⟨5, _⟩ => ⟨S32x512, .f32⟩
  | .local _ .vmem, ⟨6, _⟩ => ⟨S512x512, .bf16⟩
  | .local _ .vmem, ⟨7, _⟩ => ⟨S16x32x512, .bf16⟩
  | .local _ .vmem, ⟨8, _⟩ => ⟨S512x512, .bf16⟩
  | .local _ .vmem, ⟨9, _⟩ => ⟨S512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c3_i32_87 : BitVec 32) (c0_i32_88 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let v128 : BitVec 32 := Scalar.select v127 c3_i32_87 c0_i32_88
  let c128_i32 : BitVec 32 := 128#32
  let v129 : BitVec 32 := Scalar.muli v128 c128_i32
  let v130 : Index := Scalar.indexCast v129
  let c0_89 : Index := 0#32
  ![v130.toNat, 0]
def k0_off1_at (r : Fin 4) : BitVec 32 × BitVec 32 :=
  if r.val < 2 then
    if r.val < 1 then
      (3#32, 0#32)
    else
      (2#32, 1#32)
  else
    if r.val < 3 then
      (1#32, 2#32)
    else
      (0#32, 3#32)
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_95 : BitVec 32 := 4#32
  let v139 : BitVec 32 := Scalar.muli v128 c4_i32_95
  let c0_i32_96 : BitVec 32 := 0#32
  let v140 : BitVec 32 := Scalar.addi v139 c0_i32_96
  let v142 : BitVec 1 := Scalar.cmpi .ne v140 v2
  let v143 : BitVec 32 := Scalar.extui v142
  let c0_i32_97 : BitVec 32 := 0#32
  let v144 : BitVec 1 := Scalar.cmpi .ne v143 c0_i32_97
  v144

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_95 : BitVec 32 := 4#32
  let v139 : BitVec 32 := Scalar.muli v128 c4_i32_95
  let c0_i32_96 : BitVec 32 := 0#32
  let v140 : BitVec 32 := Scalar.addi v139 c0_i32_96
  ![v140.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_95 : BitVec 32 := 4#32
  let v139 : BitVec 32 := Scalar.muli v128 c4_i32_95
  let c0_i32_96 : BitVec 32 := 0#32
  let v140 : BitVec 32 := Scalar.addi v139 c0_i32_96
  let c32_i32 : BitVec 32 := 32#32
  let v141 : BitVec 32 := Scalar.muli v140 c32_i32
  let c0_i32_387 : BitVec 32 := 0#32
  ![v141.toNat, 0]
def k0_dev16 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_95 : BitVec 32 := 4#32
  let v139 : BitVec 32 := Scalar.muli v128 c4_i32_95
  let c0_i32_96 : BitVec 32 := 0#32
  let v140 : BitVec 32 := Scalar.addi v139 c0_i32_96
  let c1_i32_383 : BitVec 32 := 1#32
  let v503 : BitVec 32 := Scalar.muli v140 c1_i32_383
  let v504 : BitVec 32 := Scalar.addi c0_i32_384 v503
  v504.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_98 : BitVec 32 := 4#32
  let v145 : BitVec 32 := Scalar.muli v128 c4_i32_98
  let c1_i32_99 : BitVec 32 := 1#32
  let v146 : BitVec 32 := Scalar.addi v145 c1_i32_99
  let v148 : BitVec 1 := Scalar.cmpi .ne v146 v2
  let v149 : BitVec 32 := Scalar.extui v148
  let c0_i32_101 : BitVec 32 := 0#32
  let v150 : BitVec 1 := Scalar.cmpi .ne v149 c0_i32_101
  v150

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_98 : BitVec 32 := 4#32
  let v145 : BitVec 32 := Scalar.muli v128 c4_i32_98
  let c1_i32_99 : BitVec 32 := 1#32
  let v146 : BitVec 32 := Scalar.addi v145 c1_i32_99
  ![v146.toNat]
def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_98 : BitVec 32 := 4#32
  let v145 : BitVec 32 := Scalar.muli v128 c4_i32_98
  let c1_i32_99 : BitVec 32 := 1#32
  let v146 : BitVec 32 := Scalar.addi v145 c1_i32_99
  let c32_i32_100 : BitVec 32 := 32#32
  let v147 : BitVec 32 := Scalar.muli v146 c32_i32_100
  let c0_i32_387 : BitVec 32 := 0#32
  ![v147.toNat, 0]
def k0_dev17 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_98 : BitVec 32 := 4#32
  let v145 : BitVec 32 := Scalar.muli v128 c4_i32_98
  let c1_i32_99 : BitVec 32 := 1#32
  let v146 : BitVec 32 := Scalar.addi v145 c1_i32_99
  let c1_i32_383 : BitVec 32 := 1#32
  let v503 : BitVec 32 := Scalar.muli v146 c1_i32_383
  let v504 : BitVec 32 := Scalar.addi c0_i32_384 v503
  v504.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_102 : BitVec 32 := 4#32
  let v151 : BitVec 32 := Scalar.muli v128 c4_i32_102
  let c2_i32_103 : BitVec 32 := 2#32
  let v152 : BitVec 32 := Scalar.addi v151 c2_i32_103
  let v154 : BitVec 1 := Scalar.cmpi .ne v152 v2
  let v155 : BitVec 32 := Scalar.extui v154
  let c0_i32_105 : BitVec 32 := 0#32
  let v156 : BitVec 1 := Scalar.cmpi .ne v155 c0_i32_105
  v156

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_102 : BitVec 32 := 4#32
  let v151 : BitVec 32 := Scalar.muli v128 c4_i32_102
  let c2_i32_103 : BitVec 32 := 2#32
  let v152 : BitVec 32 := Scalar.addi v151 c2_i32_103
  ![v152.toNat]
def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_102 : BitVec 32 := 4#32
  let v151 : BitVec 32 := Scalar.muli v128 c4_i32_102
  let c2_i32_103 : BitVec 32 := 2#32
  let v152 : BitVec 32 := Scalar.addi v151 c2_i32_103
  let c32_i32_104 : BitVec 32 := 32#32
  let v153 : BitVec 32 := Scalar.muli v152 c32_i32_104
  let c0_i32_387 : BitVec 32 := 0#32
  ![v153.toNat, 0]
def k0_dev18 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_102 : BitVec 32 := 4#32
  let v151 : BitVec 32 := Scalar.muli v128 c4_i32_102
  let c2_i32_103 : BitVec 32 := 2#32
  let v152 : BitVec 32 := Scalar.addi v151 c2_i32_103
  let c1_i32_383 : BitVec 32 := 1#32
  let v503 : BitVec 32 := Scalar.muli v152 c1_i32_383
  let v504 : BitVec 32 := Scalar.addi c0_i32_384 v503
  v504.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_106 : BitVec 32 := 4#32
  let v157 : BitVec 32 := Scalar.muli v128 c4_i32_106
  let c3_i32_107 : BitVec 32 := 3#32
  let v158 : BitVec 32 := Scalar.addi v157 c3_i32_107
  let v160 : BitVec 1 := Scalar.cmpi .ne v158 v2
  let v161 : BitVec 32 := Scalar.extui v160
  let c0_i32_109 : BitVec 32 := 0#32
  let v162 : BitVec 1 := Scalar.cmpi .ne v161 c0_i32_109
  v162

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_106 : BitVec 32 := 4#32
  let v157 : BitVec 32 := Scalar.muli v128 c4_i32_106
  let c3_i32_107 : BitVec 32 := 3#32
  let v158 : BitVec 32 := Scalar.addi v157 c3_i32_107
  ![v158.toNat]
def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_106 : BitVec 32 := 4#32
  let v157 : BitVec 32 := Scalar.muli v128 c4_i32_106
  let c3_i32_107 : BitVec 32 := 3#32
  let v158 : BitVec 32 := Scalar.addi v157 c3_i32_107
  let c32_i32_108 : BitVec 32 := 32#32
  let v159 : BitVec 32 := Scalar.muli v158 c32_i32_108
  let c0_i32_387 : BitVec 32 := 0#32
  ![v159.toNat, 0]
def k0_dev19 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_86 : BitVec 32 := 2#32
  let v127 : BitVec 1 := Scalar.cmpi .slt v126 c2_i32_86
  let c3_i32_87 : BitVec 32 := 3#32
  let c0_i32_88 : BitVec 32 := 0#32
  let v128 : BitVec 32 := Scalar.select v127 c3_i32_87 c0_i32_88
  let c4_i32_106 : BitVec 32 := 4#32
  let v157 : BitVec 32 := Scalar.muli v128 c4_i32_106
  let c3_i32_107 : BitVec 32 := 3#32
  let v158 : BitVec 32 := Scalar.addi v157 c3_i32_107
  let c1_i32_383 : BitVec 32 := 1#32
  let v503 : BitVec 32 := Scalar.muli v158 c1_i32_383
  let v504 : BitVec 32 := Scalar.addi c0_i32_384 v503
  v504.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_119 : BitVec 32 := 4#32
  let v175 : BitVec 32 := Scalar.muli v164 c4_i32_119
  let c0_i32_120 : BitVec 32 := 0#32
  let v176 : BitVec 32 := Scalar.addi v175 c0_i32_120
  let v178 : BitVec 1 := Scalar.cmpi .ne v176 v2
  let v179 : BitVec 32 := Scalar.extui v178
  let c0_i32_122 : BitVec 32 := 0#32
  let v180 : BitVec 1 := Scalar.cmpi .ne v179 c0_i32_122
  v180

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_119 : BitVec 32 := 4#32
  let v175 : BitVec 32 := Scalar.muli v164 c4_i32_119
  let c0_i32_120 : BitVec 32 := 0#32
  let v176 : BitVec 32 := Scalar.addi v175 c0_i32_120
  ![v176.toNat]
def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_119 : BitVec 32 := 4#32
  let v175 : BitVec 32 := Scalar.muli v164 c4_i32_119
  let c0_i32_120 : BitVec 32 := 0#32
  let v176 : BitVec 32 := Scalar.addi v175 c0_i32_120
  let c32_i32_121 : BitVec 32 := 32#32
  let v177 : BitVec 32 := Scalar.muli v176 c32_i32_121
  let c0_i32_387 : BitVec 32 := 0#32
  ![v177.toNat, 0]
def k0_dev20 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_119 : BitVec 32 := 4#32
  let v175 : BitVec 32 := Scalar.muli v164 c4_i32_119
  let c0_i32_120 : BitVec 32 := 0#32
  let v176 : BitVec 32 := Scalar.addi v175 c0_i32_120
  let c1_i32_383 : BitVec 32 := 1#32
  let v503 : BitVec 32 := Scalar.muli v176 c1_i32_383
  let v504 : BitVec 32 := Scalar.addi c0_i32_384 v503
  v504.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_123 : BitVec 32 := 4#32
  let v181 : BitVec 32 := Scalar.muli v164 c4_i32_123
  let c1_i32_124 : BitVec 32 := 1#32
  let v182 : BitVec 32 := Scalar.addi v181 c1_i32_124
  let v184 : BitVec 1 := Scalar.cmpi .ne v182 v2
  let v185 : BitVec 32 := Scalar.extui v184
  let c0_i32_126 : BitVec 32 := 0#32
  let v186 : BitVec 1 := Scalar.cmpi .ne v185 c0_i32_126
  v186

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_123 : BitVec 32 := 4#32
  let v181 : BitVec 32 := Scalar.muli v164 c4_i32_123
  let c1_i32_124 : BitVec 32 := 1#32
  let v182 : BitVec 32 := Scalar.addi v181 c1_i32_124
  ![v182.toNat]
def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_123 : BitVec 32 := 4#32
  let v181 : BitVec 32 := Scalar.muli v164 c4_i32_123
  let c1_i32_124 : BitVec 32 := 1#32
  let v182 : BitVec 32 := Scalar.addi v181 c1_i32_124
  let c32_i32_125 : BitVec 32 := 32#32
  let v183 : BitVec 32 := Scalar.muli v182 c32_i32_125
  let c0_i32_387 : BitVec 32 := 0#32
  ![v183.toNat, 0]
def k0_dev21 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_123 : BitVec 32 := 4#32
  let v181 : BitVec 32 := Scalar.muli v164 c4_i32_123
  let c1_i32_124 : BitVec 32 := 1#32
  let v182 : BitVec 32 := Scalar.addi v181 c1_i32_124
  let c1_i32_383 : BitVec 32 := 1#32
  let v503 : BitVec 32 := Scalar.muli v182 c1_i32_383
  let v504 : BitVec 32 := Scalar.addi c0_i32_384 v503
  v504.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_127 : BitVec 32 := 4#32
  let v187 : BitVec 32 := Scalar.muli v164 c4_i32_127
  let c2_i32_128 : BitVec 32 := 2#32
  let v188 : BitVec 32 := Scalar.addi v187 c2_i32_128
  let v190 : BitVec 1 := Scalar.cmpi .ne v188 v2
  let v191 : BitVec 32 := Scalar.extui v190
  let c0_i32_130 : BitVec 32 := 0#32
  let v192 : BitVec 1 := Scalar.cmpi .ne v191 c0_i32_130
  v192

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_127 : BitVec 32 := 4#32
  let v187 : BitVec 32 := Scalar.muli v164 c4_i32_127
  let c2_i32_128 : BitVec 32 := 2#32
  let v188 : BitVec 32 := Scalar.addi v187 c2_i32_128
  ![v188.toNat]
def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_127 : BitVec 32 := 4#32
  let v187 : BitVec 32 := Scalar.muli v164 c4_i32_127
  let c2_i32_128 : BitVec 32 := 2#32
  let v188 : BitVec 32 := Scalar.addi v187 c2_i32_128
  let c32_i32_129 : BitVec 32 := 32#32
  let v189 : BitVec 32 := Scalar.muli v188 c32_i32_129
  let c0_i32_387 : BitVec 32 := 0#32
  ![v189.toNat, 0]
def k0_dev22 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_127 : BitVec 32 := 4#32
  let v187 : BitVec 32 := Scalar.muli v164 c4_i32_127
  let c2_i32_128 : BitVec 32 := 2#32
  let v188 : BitVec 32 := Scalar.addi v187 c2_i32_128
  let c1_i32_383 : BitVec 32 := 1#32
  let v503 : BitVec 32 := Scalar.muli v188 c1_i32_383
  let v504 : BitVec 32 := Scalar.addi c0_i32_384 v503
  v504.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_131 : BitVec 32 := 4#32
  let v193 : BitVec 32 := Scalar.muli v164 c4_i32_131
  let c3_i32_132 : BitVec 32 := 3#32
  let v194 : BitVec 32 := Scalar.addi v193 c3_i32_132
  let v196 : BitVec 1 := Scalar.cmpi .ne v194 v2
  let v197 : BitVec 32 := Scalar.extui v196
  let c0_i32_134 : BitVec 32 := 0#32
  let v198 : BitVec 1 := Scalar.cmpi .ne v197 c0_i32_134
  v198

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_131 : BitVec 32 := 4#32
  let v193 : BitVec 32 := Scalar.muli v164 c4_i32_131
  let c3_i32_132 : BitVec 32 := 3#32
  let v194 : BitVec 32 := Scalar.addi v193 c3_i32_132
  ![v194.toNat]
def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_131 : BitVec 32 := 4#32
  let v193 : BitVec 32 := Scalar.muli v164 c4_i32_131
  let c3_i32_132 : BitVec 32 := 3#32
  let v194 : BitVec 32 := Scalar.addi v193 c3_i32_132
  let c32_i32_133 : BitVec 32 := 32#32
  let v195 : BitVec 32 := Scalar.muli v194 c32_i32_133
  let c0_i32_387 : BitVec 32 := 0#32
  ![v195.toNat, 0]
def k0_dev23 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_110 : BitVec 32 := 2#32
  let v163 : BitVec 1 := Scalar.cmpi .slt v126 c2_i32_110
  let c2_i32_111 : BitVec 32 := 2#32
  let c1_i32_112 : BitVec 32 := 1#32
  let v164 : BitVec 32 := Scalar.select v163 c2_i32_111 c1_i32_112
  let c4_i32_131 : BitVec 32 := 4#32
  let v193 : BitVec 32 := Scalar.muli v164 c4_i32_131
  let c3_i32_132 : BitVec 32 := 3#32
  let v194 : BitVec 32 := Scalar.addi v193 c3_i32_132
  let c1_i32_383 : BitVec 32 := 1#32
  let v503 : BitVec 32 := Scalar.muli v194 c1_i32_383
  let v504 : BitVec 32 := Scalar.addi c0_i32_384 v503
  v504.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_144 : BitVec 32 := 4#32
  let v211 : BitVec 32 := Scalar.muli v200 c4_i32_144
  let c0_i32_145 : BitVec 32 := 0#32
  let v212 : BitVec 32 := Scalar.addi v211 c0_i32_145
  let v214 : BitVec 1 := Scalar.cmpi .ne v212 v2
  let v215 : BitVec 32 := Scalar.extui v214
  let c0_i32_147 : BitVec 32 := 0#32
  let v216 : BitVec 1 := Scalar.cmpi .ne v215 c0_i32_147
  v216

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_144 : BitVec 32 := 4#32
  let v211 : BitVec 32 := Scalar.muli v200 c4_i32_144
  let c0_i32_145 : BitVec 32 := 0#32
  let v212 : BitVec 32 := Scalar.addi v211 c0_i32_145
  ![v212.toNat]
def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_144 : BitVec 32 := 4#32
  let v211 : BitVec 32 := Scalar.muli v200 c4_i32_144
  let c0_i32_145 : BitVec 32 := 0#32
  let v212 : BitVec 32 := Scalar.addi v211 c0_i32_145
  let c32_i32_146 : BitVec 32 := 32#32
  let v213 : BitVec 32 := Scalar.muli v212 c32_i32_146
  let c0_i32_387 : BitVec 32 := 0#32
  ![v213.toNat, 0]
def k0_dev24 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_144 : BitVec 32 := 4#32
  let v211 : BitVec 32 := Scalar.muli v200 c4_i32_144
  let c0_i32_145 : BitVec 32 := 0#32
  let v212 : BitVec 32 := Scalar.addi v211 c0_i32_145
  let c1_i32_383 : BitVec 32 := 1#32
  let v503 : BitVec 32 := Scalar.muli v212 c1_i32_383
  let v504 : BitVec 32 := Scalar.addi c0_i32_384 v503
  v504.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_148 : BitVec 32 := 4#32
  let v217 : BitVec 32 := Scalar.muli v200 c4_i32_148
  let c1_i32_149 : BitVec 32 := 1#32
  let v218 : BitVec 32 := Scalar.addi v217 c1_i32_149
  let v220 : BitVec 1 := Scalar.cmpi .ne v218 v2
  let v221 : BitVec 32 := Scalar.extui v220
  let c0_i32_151 : BitVec 32 := 0#32
  let v222 : BitVec 1 := Scalar.cmpi .ne v221 c0_i32_151
  v222

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_148 : BitVec 32 := 4#32
  let v217 : BitVec 32 := Scalar.muli v200 c4_i32_148
  let c1_i32_149 : BitVec 32 := 1#32
  let v218 : BitVec 32 := Scalar.addi v217 c1_i32_149
  ![v218.toNat]
def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_148 : BitVec 32 := 4#32
  let v217 : BitVec 32 := Scalar.muli v200 c4_i32_148
  let c1_i32_149 : BitVec 32 := 1#32
  let v218 : BitVec 32 := Scalar.addi v217 c1_i32_149
  let c32_i32_150 : BitVec 32 := 32#32
  let v219 : BitVec 32 := Scalar.muli v218 c32_i32_150
  let c0_i32_387 : BitVec 32 := 0#32
  ![v219.toNat, 0]
def k0_dev25 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_148 : BitVec 32 := 4#32
  let v217 : BitVec 32 := Scalar.muli v200 c4_i32_148
  let c1_i32_149 : BitVec 32 := 1#32
  let v218 : BitVec 32 := Scalar.addi v217 c1_i32_149
  let c1_i32_383 : BitVec 32 := 1#32
  let v503 : BitVec 32 := Scalar.muli v218 c1_i32_383
  let v504 : BitVec 32 := Scalar.addi c0_i32_384 v503
  v504.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_152 : BitVec 32 := 4#32
  let v223 : BitVec 32 := Scalar.muli v200 c4_i32_152
  let c2_i32_153 : BitVec 32 := 2#32
  let v224 : BitVec 32 := Scalar.addi v223 c2_i32_153
  let v226 : BitVec 1 := Scalar.cmpi .ne v224 v2
  let v227 : BitVec 32 := Scalar.extui v226
  let c0_i32_155 : BitVec 32 := 0#32
  let v228 : BitVec 1 := Scalar.cmpi .ne v227 c0_i32_155
  v228

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_152 : BitVec 32 := 4#32
  let v223 : BitVec 32 := Scalar.muli v200 c4_i32_152
  let c2_i32_153 : BitVec 32 := 2#32
  let v224 : BitVec 32 := Scalar.addi v223 c2_i32_153
  ![v224.toNat]
def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_152 : BitVec 32 := 4#32
  let v223 : BitVec 32 := Scalar.muli v200 c4_i32_152
  let c2_i32_153 : BitVec 32 := 2#32
  let v224 : BitVec 32 := Scalar.addi v223 c2_i32_153
  let c32_i32_154 : BitVec 32 := 32#32
  let v225 : BitVec 32 := Scalar.muli v224 c32_i32_154
  let c0_i32_387 : BitVec 32 := 0#32
  ![v225.toNat, 0]
def k0_dev26 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_152 : BitVec 32 := 4#32
  let v223 : BitVec 32 := Scalar.muli v200 c4_i32_152
  let c2_i32_153 : BitVec 32 := 2#32
  let v224 : BitVec 32 := Scalar.addi v223 c2_i32_153
  let c1_i32_383 : BitVec 32 := 1#32
  let v503 : BitVec 32 := Scalar.muli v224 c1_i32_383
  let v504 : BitVec 32 := Scalar.addi c0_i32_384 v503
  v504.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_156 : BitVec 32 := 4#32
  let v229 : BitVec 32 := Scalar.muli v200 c4_i32_156
  let c3_i32_157 : BitVec 32 := 3#32
  let v230 : BitVec 32 := Scalar.addi v229 c3_i32_157
  let v232 : BitVec 1 := Scalar.cmpi .ne v230 v2
  let v233 : BitVec 32 := Scalar.extui v232
  let c0_i32_159 : BitVec 32 := 0#32
  let v234 : BitVec 1 := Scalar.cmpi .ne v233 c0_i32_159
  v234

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_156 : BitVec 32 := 4#32
  let v229 : BitVec 32 := Scalar.muli v200 c4_i32_156
  let c3_i32_157 : BitVec 32 := 3#32
  let v230 : BitVec 32 := Scalar.addi v229 c3_i32_157
  ![v230.toNat]
def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_156 : BitVec 32 := 4#32
  let v229 : BitVec 32 := Scalar.muli v200 c4_i32_156
  let c3_i32_157 : BitVec 32 := 3#32
  let v230 : BitVec 32 := Scalar.addi v229 c3_i32_157
  let c32_i32_158 : BitVec 32 := 32#32
  let v231 : BitVec 32 := Scalar.muli v230 c32_i32_158
  let c0_i32_387 : BitVec 32 := 0#32
  ![v231.toNat, 0]
def k0_dev27 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_135 : BitVec 32 := 2#32
  let v199 : BitVec 1 := Scalar.cmpi .slt v126 c2_i32_135
  let c1_i32_136 : BitVec 32 := 1#32
  let c2_i32_137 : BitVec 32 := 2#32
  let v200 : BitVec 32 := Scalar.select v199 c1_i32_136 c2_i32_137
  let c4_i32_156 : BitVec 32 := 4#32
  let v229 : BitVec 32 := Scalar.muli v200 c4_i32_156
  let c3_i32_157 : BitVec 32 := 3#32
  let v230 : BitVec 32 := Scalar.addi v229 c3_i32_157
  let c1_i32_383 : BitVec 32 := 1#32
  let v503 : BitVec 32 := Scalar.muli v230 c1_i32_383
  let v504 : BitVec 32 := Scalar.addi c0_i32_384 v503
  v504.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_169 : BitVec 32 := 4#32
  let v247 : BitVec 32 := Scalar.muli v236 c4_i32_169
  let c0_i32_170 : BitVec 32 := 0#32
  let v248 : BitVec 32 := Scalar.addi v247 c0_i32_170
  let v250 : BitVec 1 := Scalar.cmpi .ne v248 v2
  let v251 : BitVec 32 := Scalar.extui v250
  let c0_i32_172 : BitVec 32 := 0#32
  let v252 : BitVec 1 := Scalar.cmpi .ne v251 c0_i32_172
  v252

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_169 : BitVec 32 := 4#32
  let v247 : BitVec 32 := Scalar.muli v236 c4_i32_169
  let c0_i32_170 : BitVec 32 := 0#32
  let v248 : BitVec 32 := Scalar.addi v247 c0_i32_170
  ![v248.toNat]
def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_169 : BitVec 32 := 4#32
  let v247 : BitVec 32 := Scalar.muli v236 c4_i32_169
  let c0_i32_170 : BitVec 32 := 0#32
  let v248 : BitVec 32 := Scalar.addi v247 c0_i32_170
  let c32_i32_171 : BitVec 32 := 32#32
  let v249 : BitVec 32 := Scalar.muli v248 c32_i32_171
  let c0_i32_387 : BitVec 32 := 0#32
  ![v249.toNat, 0]
def k0_dev28 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_169 : BitVec 32 := 4#32
  let v247 : BitVec 32 := Scalar.muli v236 c4_i32_169
  let c0_i32_170 : BitVec 32 := 0#32
  let v248 : BitVec 32 := Scalar.addi v247 c0_i32_170
  let c1_i32_383 : BitVec 32 := 1#32
  let v503 : BitVec 32 := Scalar.muli v248 c1_i32_383
  let v504 : BitVec 32 := Scalar.addi c0_i32_384 v503
  v504.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_173 : BitVec 32 := 4#32
  let v253 : BitVec 32 := Scalar.muli v236 c4_i32_173
  let c1_i32_174 : BitVec 32 := 1#32
  let v254 : BitVec 32 := Scalar.addi v253 c1_i32_174
  let v256 : BitVec 1 := Scalar.cmpi .ne v254 v2
  let v257 : BitVec 32 := Scalar.extui v256
  let c0_i32_176 : BitVec 32 := 0#32
  let v258 : BitVec 1 := Scalar.cmpi .ne v257 c0_i32_176
  v258

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_173 : BitVec 32 := 4#32
  let v253 : BitVec 32 := Scalar.muli v236 c4_i32_173
  let c1_i32_174 : BitVec 32 := 1#32
  let v254 : BitVec 32 := Scalar.addi v253 c1_i32_174
  ![v254.toNat]
def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_173 : BitVec 32 := 4#32
  let v253 : BitVec 32 := Scalar.muli v236 c4_i32_173
  let c1_i32_174 : BitVec 32 := 1#32
  let v254 : BitVec 32 := Scalar.addi v253 c1_i32_174
  let c32_i32_175 : BitVec 32 := 32#32
  let v255 : BitVec 32 := Scalar.muli v254 c32_i32_175
  let c0_i32_387 : BitVec 32 := 0#32
  ![v255.toNat, 0]
def k0_dev29 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_173 : BitVec 32 := 4#32
  let v253 : BitVec 32 := Scalar.muli v236 c4_i32_173
  let c1_i32_174 : BitVec 32 := 1#32
  let v254 : BitVec 32 := Scalar.addi v253 c1_i32_174
  let c1_i32_383 : BitVec 32 := 1#32
  let v503 : BitVec 32 := Scalar.muli v254 c1_i32_383
  let v504 : BitVec 32 := Scalar.addi c0_i32_384 v503
  v504.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_177 : BitVec 32 := 4#32
  let v259 : BitVec 32 := Scalar.muli v236 c4_i32_177
  let c2_i32_178 : BitVec 32 := 2#32
  let v260 : BitVec 32 := Scalar.addi v259 c2_i32_178
  let v262 : BitVec 1 := Scalar.cmpi .ne v260 v2
  let v263 : BitVec 32 := Scalar.extui v262
  let c0_i32_180 : BitVec 32 := 0#32
  let v264 : BitVec 1 := Scalar.cmpi .ne v263 c0_i32_180
  v264

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_177 : BitVec 32 := 4#32
  let v259 : BitVec 32 := Scalar.muli v236 c4_i32_177
  let c2_i32_178 : BitVec 32 := 2#32
  let v260 : BitVec 32 := Scalar.addi v259 c2_i32_178
  ![v260.toNat]
def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_177 : BitVec 32 := 4#32
  let v259 : BitVec 32 := Scalar.muli v236 c4_i32_177
  let c2_i32_178 : BitVec 32 := 2#32
  let v260 : BitVec 32 := Scalar.addi v259 c2_i32_178
  let c32_i32_179 : BitVec 32 := 32#32
  let v261 : BitVec 32 := Scalar.muli v260 c32_i32_179
  let c0_i32_387 : BitVec 32 := 0#32
  ![v261.toNat, 0]
def k0_dev30 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_177 : BitVec 32 := 4#32
  let v259 : BitVec 32 := Scalar.muli v236 c4_i32_177
  let c2_i32_178 : BitVec 32 := 2#32
  let v260 : BitVec 32 := Scalar.addi v259 c2_i32_178
  let c1_i32_383 : BitVec 32 := 1#32
  let v503 : BitVec 32 := Scalar.muli v260 c1_i32_383
  let v504 : BitVec 32 := Scalar.addi c0_i32_384 v503
  v504.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_181 : BitVec 32 := 4#32
  let v265 : BitVec 32 := Scalar.muli v236 c4_i32_181
  let c3_i32_182 : BitVec 32 := 3#32
  let v266 : BitVec 32 := Scalar.addi v265 c3_i32_182
  let v268 : BitVec 1 := Scalar.cmpi .ne v266 v2
  let v269 : BitVec 32 := Scalar.extui v268
  let c0_i32_184 : BitVec 32 := 0#32
  let v270 : BitVec 1 := Scalar.cmpi .ne v269 c0_i32_184
  v270

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_181 : BitVec 32 := 4#32
  let v265 : BitVec 32 := Scalar.muli v236 c4_i32_181
  let c3_i32_182 : BitVec 32 := 3#32
  let v266 : BitVec 32 := Scalar.addi v265 c3_i32_182
  ![v266.toNat]
def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_385 : BitVec 32 := 0#32
  let c0_i32_386 : BitVec 32 := 0#32
  ![v2.toNat, 0, 0]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_181 : BitVec 32 := 4#32
  let v265 : BitVec 32 := Scalar.muli v236 c4_i32_181
  let c3_i32_182 : BitVec 32 := 3#32
  let v266 : BitVec 32 := Scalar.addi v265 c3_i32_182
  let c32_i32_183 : BitVec 32 := 32#32
  let v267 : BitVec 32 := Scalar.muli v266 c32_i32_183
  let c0_i32_387 : BitVec 32 := 0#32
  ![v267.toNat, 0]
def k0_dev31 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_85 : BitVec 32 := 4#32
  let v126 : BitVec 32 := Scalar.divsi v2 c4_i32_85
  let c2_i32_160 : BitVec 32 := 2#32
  let v235 : BitVec 1 := Scalar.cmpi .slt v126 c2_i32_160
  let c0_i32_161 : BitVec 32 := 0#32
  let c3_i32_162 : BitVec 32 := 3#32
  let v236 : BitVec 32 := Scalar.select v235 c0_i32_161 c3_i32_162
  let c4_i32_181 : BitVec 32 := 4#32
  let v265 : BitVec 32 := Scalar.muli v236 c4_i32_181
  let c3_i32_182 : BitVec 32 := 3#32
  let v266 : BitVec 32 := Scalar.addi v265 c3_i32_182
  let c1_i32_383 : BitVec 32 := 1#32
  let v503 : BitVec 32 := Scalar.muli v266 c1_i32_383
  let v504 : BitVec 32 := Scalar.addi c0_i32_384 v503
  v504.toNat
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_185 : BitVec 32 := 32#32
  let v271 : BitVec 32 := Scalar.muli v2 c32_i32_185
  let v272 : Index := Scalar.indexCast v271
  let c0_186 : Index := 0#32
  ![v272.toNat, 0]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_190 : BitVec 32 := 32#32
  let v278 : BitVec 32 := Scalar.muli v2 c32_i32_190
  let v279 : Index := Scalar.indexCast v278
  let c0_191 : Index := 0#32
  ![v279.toNat, 0]
def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v281 : Index := Scalar.indexCast v2
  let c0_192 : Index := 0#32
  let c0_193 : Index := 0#32
  ![v281.toNat, 0, 0]
def k0_off69 (d0 : Dev nD) (c1_i32_194 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v285 : BitVec 32 := Scalar.subi v2 c1_i32_194
  let c16_i32_195 : BitVec 32 := 16#32
  let v286 : BitVec 32 := Scalar.addi v285 c16_i32_195
  let c16_i32_196 : BitVec 32 := 16#32
  let v287 : BitVec 32 := Scalar.remsi v286 c16_i32_196
  ![v287.toNat]
def k0_off70 (d0 : Dev nD) (c1_i32_194 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v285 : BitVec 32 := Scalar.subi v2 c1_i32_194
  let c16_i32_195 : BitVec 32 := 16#32
  let v286 : BitVec 32 := Scalar.addi v285 c16_i32_195
  let c16_i32_196 : BitVec 32 := 16#32
  let v287 : BitVec 32 := Scalar.remsi v286 c16_i32_196
  let c0_i32_199 : BitVec 32 := 0#32
  let c0_i32_200 : BitVec 32 := 0#32
  ![v287.toNat, 0, 0]
def k0_cond17 (d0 : Dev nD) : BitVec 1 :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v455 : BitVec 1 := Scalar.cmpi .ne c0_i32_335 v2
  let v456 : BitVec 32 := Scalar.extui v455
  let c0_i32_337 : BitVec 32 := 0#32
  let v457 : BitVec 1 := Scalar.cmpi .ne v456 c0_i32_337
  v457

def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond18 (d0 : Dev nD) : BitVec 1 :=
  let c1_i32_338 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v458 : BitVec 1 := Scalar.cmpi .ne c1_i32_338 v2
  let v459 : BitVec 32 := Scalar.extui v458
  let c0_i32_340 : BitVec 32 := 0#32
  let v460 : BitVec 1 := Scalar.cmpi .ne v459 c0_i32_340
  v460

def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond19 (d0 : Dev nD) : BitVec 1 :=
  let c2_i32_341 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v461 : BitVec 1 := Scalar.cmpi .ne c2_i32_341 v2
  let v462 : BitVec 32 := Scalar.extui v461
  let c0_i32_343 : BitVec 32 := 0#32
  let v463 : BitVec 1 := Scalar.cmpi .ne v462 c0_i32_343
  v463

def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond20 (d0 : Dev nD) : BitVec 1 :=
  let c3_i32_344 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v464 : BitVec 1 := Scalar.cmpi .ne c3_i32_344 v2
  let v465 : BitVec 32 := Scalar.extui v464
  let c0_i32_346 : BitVec 32 := 0#32
  let v466 : BitVec 1 := Scalar.cmpi .ne v465 c0_i32_346
  v466

def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond21 (d0 : Dev nD) : BitVec 1 :=
  let c4_i32_347 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v467 : BitVec 1 := Scalar.cmpi .ne c4_i32_347 v2
  let v468 : BitVec 32 := Scalar.extui v467
  let c0_i32_349 : BitVec 32 := 0#32
  let v469 : BitVec 1 := Scalar.cmpi .ne v468 c0_i32_349
  v469

def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond22 (d0 : Dev nD) : BitVec 1 :=
  let c5_i32_350 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v470 : BitVec 1 := Scalar.cmpi .ne c5_i32_350 v2
  let v471 : BitVec 32 := Scalar.extui v470
  let c0_i32_352 : BitVec 32 := 0#32
  let v472 : BitVec 1 := Scalar.cmpi .ne v471 c0_i32_352
  v472

def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond23 (d0 : Dev nD) : BitVec 1 :=
  let c6_i32_353 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v473 : BitVec 1 := Scalar.cmpi .ne c6_i32_353 v2
  let v474 : BitVec 32 := Scalar.extui v473
  let c0_i32_355 : BitVec 32 := 0#32
  let v475 : BitVec 1 := Scalar.cmpi .ne v474 c0_i32_355
  v475

def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond24 (d0 : Dev nD) : BitVec 1 :=
  let c7_i32_356 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v476 : BitVec 1 := Scalar.cmpi .ne c7_i32_356 v2
  let v477 : BitVec 32 := Scalar.extui v476
  let c0_i32_358 : BitVec 32 := 0#32
  let v478 : BitVec 1 := Scalar.cmpi .ne v477 c0_i32_358
  v478

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond25 (d0 : Dev nD) : BitVec 1 :=
  let c8_i32_359 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v479 : BitVec 1 := Scalar.cmpi .ne c8_i32_359 v2
  let v480 : BitVec 32 := Scalar.extui v479
  let c0_i32_361 : BitVec 32 := 0#32
  let v481 : BitVec 1 := Scalar.cmpi .ne v480 c0_i32_361
  v481

def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond26 (d0 : Dev nD) : BitVec 1 :=
  let c9_i32_362 : BitVec 32 := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v482 : BitVec 1 := Scalar.cmpi .ne c9_i32_362 v2
  let v483 : BitVec 32 := Scalar.extui v482
  let c0_i32_364 : BitVec 32 := 0#32
  let v484 : BitVec 1 := Scalar.cmpi .ne v483 c0_i32_364
  v484

def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond27 (d0 : Dev nD) : BitVec 1 :=
  let c10_i32_365 : BitVec 32 := 10#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v485 : BitVec 1 := Scalar.cmpi .ne c10_i32_365 v2
  let v486 : BitVec 32 := Scalar.extui v485
  let c0_i32_367 : BitVec 32 := 0#32
  let v487 : BitVec 1 := Scalar.cmpi .ne v486 c0_i32_367
  v487

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond28 (d0 : Dev nD) : BitVec 1 :=
  let c11_i32_368 : BitVec 32 := 11#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v488 : BitVec 1 := Scalar.cmpi .ne c11_i32_368 v2
  let v489 : BitVec 32 := Scalar.extui v488
  let c0_i32_370 : BitVec 32 := 0#32
  let v490 : BitVec 1 := Scalar.cmpi .ne v489 c0_i32_370
  v490

def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond29 (d0 : Dev nD) : BitVec 1 :=
  let c12_i32_371 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v491 : BitVec 1 := Scalar.cmpi .ne c12_i32_371 v2
  let v492 : BitVec 32 := Scalar.extui v491
  let c0_i32_373 : BitVec 32 := 0#32
  let v493 : BitVec 1 := Scalar.cmpi .ne v492 c0_i32_373
  v493

def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond30 (d0 : Dev nD) : BitVec 1 :=
  let c13_i32_374 : BitVec 32 := 13#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v494 : BitVec 1 := Scalar.cmpi .ne c13_i32_374 v2
  let v495 : BitVec 32 := Scalar.extui v494
  let c0_i32_376 : BitVec 32 := 0#32
  let v496 : BitVec 1 := Scalar.cmpi .ne v495 c0_i32_376
  v496

def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond31 (d0 : Dev nD) : BitVec 1 :=
  let c14_i32_377 : BitVec 32 := 14#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v497 : BitVec 1 := Scalar.cmpi .ne c14_i32_377 v2
  let v498 : BitVec 32 := Scalar.extui v497
  let c0_i32_379 : BitVec 32 := 0#32
  let v499 : BitVec 1 := Scalar.cmpi .ne v498 c0_i32_379
  v499

def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
def k0_cond32 (d0 : Dev nD) : BitVec 1 :=
  let c15_i32_380 : BitVec 32 := 15#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v500 : BitVec 1 := Scalar.cmpi .ne c15_i32_380 v2
  let v501 : BitVec 32 := Scalar.extui v500
  let c0_i32_382 : BitVec 32 := 0#32
  let v502 : BitVec 1 := Scalar.cmpi .ne v501 c0_i32_382
  v502

def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_386 : BitVec 32 := 0#32
  let c0_i32_387 : BitVec 32 := 0#32
  ![v2.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S512x32 : Shape := ⟨2, ![512, 32]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S32x256x512, .bf16⟩
  | .hbm, ⟨4, _⟩ => ⟨S256x512, .bf16⟩
  | .hbm, ⟨5, _⟩ => ⟨S512x256, .f32⟩
  | .hbm, ⟨6, _⟩ => ⟨S256x32, .f32⟩
  | .hbm, ⟨7, _⟩ => ⟨S512x32, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x32, .f32⟩
  | .hbm, ⟨12, _⟩ => ⟨S512x32, .f32⟩
  | .hbm, ⟨13, _⟩ => ⟨S512x32, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x32, .f32⟩
  | .hbm, ⟨18, _⟩ => ⟨S512x32, .f32⟩
  | .hbm, ⟨19, _⟩ => ⟨S256x512, .f32⟩
  | .hbm, ⟨20, _⟩ => ⟨S512x512, .f32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S_, .i32⟩
  | .hbm, ⟨25, _⟩ => ⟨S512x1, .i32⟩
  | .hbm, ⟨26, _⟩ => ⟨S512x1, .i32⟩
  | .hbm, ⟨27, _⟩ => ⟨S512x1, .i32⟩
  | .hbm, ⟨28, _⟩ => ⟨S512x1x1, .i32⟩
  | .hbm, ⟨29, _⟩ => ⟨S1, .i32⟩
  | .hbm, ⟨30, _⟩ => ⟨S_, .i32⟩
  | .hbm, ⟨31, _⟩ => ⟨S512x1x1, .i32⟩
  | .hbm, ⟨32, _⟩ => ⟨S512x1x1, .i1⟩
  | .hbm, ⟨33, _⟩ => ⟨S1x1x1, .i32⟩
  | .hbm, ⟨34, _⟩ => ⟨S512x1x1, .i32⟩
  | .hbm, ⟨35, _⟩ => ⟨S512x1x1, .i1⟩
  | .hbm, ⟨36, _⟩ => ⟨S512x1x1, .i1⟩
  | .hbm, ⟨37, _⟩ => ⟨S_, .i1⟩
  | .hbm, ⟨38, _⟩ => ⟨S512x1, .i1⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S32x256x512, .f32⟩
  | .hbm, ⟨44, _⟩ => ⟨S512, .i32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S512x256x512, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Proto.lean ====
/-
# The protocol of the mixture-of-experts kernel

The kernel runs on sixteen devices. Each device tells the other fifteen, on the runtime's barrier
semaphore, that it has entered; it computes its partial result for all 512 tokens in four blocks of 128 rows, sends
each 32-row block to the device that owns those rows, into the slot of that device's landing array which bears the
sender's number, and sums the sixteen slots.

This file states, at one symbolic device `c`: the memrefs and semaphore cells, what every buffer holds, the schedule
of the cells (who pays which cell, how much, handing over what) and what each device owes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

/-! ## The resource algebra: the pipeline library's copy, and the protocol's, whose duties are named by the payer -/

/-- The protocol's resources. -/
abbrev UB : Type := URounds (GSem nD τ sig) (Dev nD)
/-- Both libraries' resources. -/
abbrev UU : Type := UR sig nD τ × UB

local notation "𝕄" => MT nD τ sig Unit (Elt F) ℕ UU ℕ

/-- Where the pipeline's resources lie. -/
abbrev EP : Emb (UR sig nD τ) (MT nD τ sig Unit (Elt F) ℕ UU ℕ) := embL
/-- Where the protocol's resources lie. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs and the cells -/

/-- The partial result. -/
abbrev accM : Memref sig .tc .vmem S512x512 .bf16 := Memref.whole cc0_scratch0
/-- The landing array. -/
abbrev commM : Memref sig .tc .vmem S16x32x512 .bf16 := Memref.whole cc0_scratch1
/-- The scaled tokens. -/
abbrev xgM : Memref sig .tc .vmem S512x512 .bf16 := Memref.whole cc0_scratch2
/-- The stacked experts. -/
abbrev wM : Memref sig .tc .vmem S512x512 .bf16 := Memref.whole cc0_scratch3

/-- The rows of device `t` lie inside the partial result. -/
theorem acc_inb (t : Dev nD) : ∀ a, (![32 * t.val, 0] : Fin 2 → Nat) a + S32x512.size a ≤ S512x512.size a := by
  revert t; decide
/-- Slot `t` lies inside the landing array. -/
theorem comm_inb (t : Dev nD) : ∀ a, (![t.val, 0, 0] : Fin 3 → Nat) a + S1x32x512.size a ≤ S16x32x512.size a := by
  revert t; decide
/-- Entry `t` lies inside an array of sixteen semaphores. -/
theorem sem_inb (t : Dev nD) : ∀ a, (![t.val] : Fin 1 → Nat) a + S1.size a ≤ S16.size a := by
  revert t; decide

/-- Rows `32 t … 32 t + 31` of the partial result: the block that device `t` owns. -/
abbrev accV (t : Dev nD) : Memref sig .tc .vmem S32x512 .bf16 :=
  accM.slice (Rect.unit ![32 * t.val, 0] S32x512.size (acc_inb t)) (fun _ => rfl)
/-- Slot `t` of the landing array: where device `t`'s contribution lands. -/
abbrev commV (t : Dev nD) : Memref sig .tc .vmem S32x512 .bf16 :=
  (commM.slice (Rect.unit ![t.val, 0, 0] S1x32x512.size (comm_inb t)) (fun _ => rfl)).squeeze S32x512 squeezes_S1x32x512_S32x512

/-- The barrier's semaphore. -/
abbrev barS : Sem sig := (SemArray.scalar (sig.barrier 0 rfl) : Sems sig S_).sem
/-- The semaphore of the send to device `t`. -/
abbrev sendS (t : Dev nD) : DmaSem sig :=
  ((cc0_scratch4.slice (Rect.unit ![t.val] S1.size (sem_inb t))).squeeze S_ squeezes_S1_S_).sem
/-- The semaphore of the arrival from device `t`. -/
abbrev recvS (t : Dev nD) : DmaSem sig :=
  ((cc0_scratch5.slice (Rect.unit ![t.val] S1.size (sem_inb t))).squeeze S_ squeezes_S1_S_).sem

/-- The barrier cell of device `c`. -/
abbrev barCell (c : Dev nD) : GSem nD τ sig := ((c : Thread nD τ), .reg barS)
/-- Device `c`'s cell for its send to `t`. -/
abbrev sendCell (c t : Dev nD) : GSem nD τ sig := ((c : Thread nD τ), .dma (sendS t))
/-- Device `c`'s cell for the arrival from `t`. -/
abbrev recvCell (c t : Dev nD) : GSem nD τ sig := ((c : Thread nD τ), .dma (recvS t))

/-- The number of a send semaphore. -/
theorem sendS_val (t : Dev nD) : (sendS t).val = 6 + t.val := by revert t; decide
/-- The number of a receive semaphore. -/
theorem recvS_val (t : Dev nD) : (recvS t).val = 22 + t.val := by revert t; decide
/-- Send semaphores of different devices differ. -/
theorem sendS_inj {t t' : Dev nD} (h : sendS t = sendS t') : t = t' := by
  have := congrArg Fin.val h; rw [sendS_val, sendS_val] at this; exact Fin.ext (by omega)
/-- Receive semaphores of different devices differ. -/
theorem recvS_inj {t t' : Dev nD} (h : recvS t = recvS t') : t = t' := by
  have := congrArg Fin.val h; rw [recvS_val, recvS_val] at this; exact Fin.ext (by omega)
/-- No send semaphore is a receive semaphore. -/
theorem sendS_ne_recvS (t t' : Dev nD) : sendS t ≠ recvS t' := fun h => by
  have := congrArg Fin.val h; rw [sendS_val, recvS_val] at this; have h16 : t.val < 16 := t.isLt; omega

/-- The units a transfer of one 32-row block credits: the same for every slot. -/
def N : ℕ := (commV 0).view.dmaCredit
/-- A transfer credits at least one unit. -/
theorem N_pos : 0 < N := View.dmaCredit_pos _ (by decide)
/-- Every slot's transfer credits the same. -/
theorem N_eq (t : Dev nD) : (commV t).view.dmaCredit = N := rfl

/-! ## Contents -/

section Contents
variable (c : Dev nD)

/-- The tokens as staged on device `c`. -/
def xstg : (cc0_stg0_0 : Ref sig .tc).ty.Contents (Elt F) :=
  (win0_0.blk (0 : Fin 1)).view.read (Elt F) ((s₀ m ρ).mem ((c : Thread nD τ).loc main_arg0))
/-- The router matrix as staged. -/
def rwstg : (cc0_stg1_0 : Ref sig .tc).ty.Contents (Elt F) :=
  (win0_1.blk (0 : Fin 1)).view.read (Elt F) ((s₀ m ρ).mem ((c : Thread nD τ).loc main_arg1))
/-- The routes as staged. -/
def idxstg : (cc0_stg2_0 : Ref sig .tc).ty.Contents (Elt F) :=
  (win0_2.blk (0 : Fin 1)).view.read (Elt F) ((s₀ m ρ).mem ((c : Thread nD τ).loc main_arg2))
/-- The device's two expert matrices as staged. -/
def ewstg : (cc0_stg3_0 : Ref sig .tc).ty.Contents (Elt F) :=
  (win0_3.blk (0 : Fin 1)).view.read (Elt F) ((s₀ m ρ).mem ((c : Thread nD τ).loc main_arg3))
/-- The shared matrix as staged. -/
def swstg : (cc0_stg4_0 : Ref sig .tc).ty.Contents (Elt F) :=
  (win0_4.blk (0 : Fin 1)).view.read (Elt F) ((s₀ m ρ).mem ((c : Thread nD τ).loc main_arg4))

/-- The device's number as the kernel computes it. -/
abbrev myW : BitVec 32 := Scalar.remsi (Scalar.divsi (Dev.word c) 1#32) 16#32

/-- The tokens scaled by their gates: columns below 256 for the device's first expert, the others for its second. -/
def xgC : (cc0_scratch2 : Ref sig .tc).ty.Contents (Elt F) := fun i =>
  if h : (i 1).val < 256 then
    k0_pay4 (myW c) (k0_pay1 (xstg m ρ c)) (k0_pay2 (xstg m ρ c) (rwstg m ρ c)) (idxstg m ρ c) (ix2 (i 0) (⟨(i 1).val, h⟩ : Fin 256))
  else
    k0_pay5 (myW c) (k0_pay1 (xstg m ρ c)) (k0_pay2 (xstg m ρ c) (rwstg m ρ c)) (idxstg m ρ c)
      (ix2 (i 0) (⟨(i 1).val - 256, by have h2 : (i 1).val < 512 := (i 1).isLt; omega⟩ : Fin 256))

/-- The device's two expert matrices, one above the other. -/
def wC : (cc0_scratch3 : Ref sig .tc).ty.Contents (Elt F) := k0_pay6 (ewstg m ρ c)

/-- Rows `128 b … 128 b + 127` of the scaled tokens. -/
def xgBlk (b : Fin 4) : Vec F S128x512 .bf16 := fun l =>
  xgC m ρ c (ix2 (⟨128 * b.val + (l 0).val, by have h : (l 0).val < 128 := (l 0).isLt; omega⟩ : Fin 512) (l 1))

/-- The device's partial result: every block of 128 rows the product of the scaled tokens' block with the experts. -/
def accC : (cc0_scratch0 : Ref sig .tc).ty.Contents (Elt F) := fun i =>
  k0_pay7 (xgBlk m ρ c ⟨(i 0).val / 128, by have h : (i 0).val < 512 := (i 0).isLt; omega⟩) (wC m ρ c)
    (ix2 (⟨(i 0).val % 128, Nat.mod_lt _ (by decide)⟩ : Fin 128) (i 1))

/-- The landing array once everything has arrived: slot `s` holds the rows of `c` in device `s`'s partial result. -/
def commC : (cc0_scratch1 : Ref sig .tc).ty.Contents (Elt F) := fun i =>
  accC m ρ (i 0) (ix2 (⟨32 * c.val + (i 1).val, by have h : (i 1).val < 32 := (i 1).isLt; have h16 : c.val < 16 := c.isLt; omega⟩ : Fin 512) (i 2))

/-- The device's own 32 tokens. -/
def xRows : Vec F S32x256 .bf16 := fun l =>
  xstg m ρ c (ix2 (⟨32 * c.val + (l 0).val, by have h : (l 0).val < 32 := (l 0).isLt; have h16 : c.val < 16 := c.isLt; omega⟩ : Fin 512) (l 1))

/-- What the device writes: the shared expert's part plus the sum of the sixteen slots. -/
def outC : (cc0_stg5_0 : Ref sig .tc).ty.Contents (Elt F) :=
  k0_pay13 (k0_pay11 (xRows m ρ c) (swstg m ρ c)) (commC m ρ c)

end Contents

/-! ## Ownership of the blocks -/

/-- Device `c` holds slot `t` of its landing array, with the contents `f` there. -/
def commPts (c t : Dev nD) (f : Buf (Elt F) ((commV t).view.loc (c : Thread nD τ))) : sProp 𝕄 :=
  (commV t).view.loc (c : Thread nD τ) ↦[(commV t).view.set]{fullShare} f
/-- Device `c` holds device `t`'s rows of its partial result. -/
def accPts (c t : Dev nD) (f : Buf (Elt F) ((accV t).view.loc (c : Thread nD τ))) : sProp 𝕄 :=
  (accV t).view.loc (c : Thread nD τ) ↦[(accV t).view.set]{fullShare} f

omit [FloatOps F] in
/-- A slot may be handed over through a cell. -/
instance commPts_storable (c t : Dev nD) (f) : BI.Storable (upEmb : UEmb _ 𝕄) (commPts (F := F) c t f) := by unfold commPts; infer_instance
omit [FloatOps F] in
/-- A block of rows may be handed over through a cell. -/
instance accPts_storable (c t : Dev nD) (f) : BI.Storable (upEmb : UEmb _ 𝕄) (accPts (F := F) c t f) := by unfold accPts; infer_instance

/-! ## The schedule -/

/-- Device `d` pays a cell of device `g.1.1` if it is another device and the cell is the barrier, or one of the two that
    bear its number. -/
abbrev Pays (g : GSem nD τ sig) (d : Dev nD) : Prop :=
  g.1.2 = .tc ∧ d ≠ g.1.1 ∧ (g.2 = .reg barS ∨ g.2 = .dma (sendS d) ∨ g.2 = .dma (recvS d))

/-- One round. The barrier: every other device pays one unit and hands over the slot of its landing array that bears
    `c`'s number. The send cell `t`: the transfer to `t` pays a block's credit and gives the rows back. The receive cell
    `t`: device `t`'s transfer pays a block's credit and hands over the slot, filled. -/
def moeRd : Rounds.Schedule (GSem nD τ sig) (Dev nD) 𝕄 where
  duties g r := if r = 0 then Finset.univ.filter (Pays g) else ∅
  unitless _ := False
  amount g _ _ := if g.2 = .reg barS then 1 else N
  payload g _ d :=
    if g.2 = .reg barS then iprop(∃ f, commPts d g.1.1 f)
    else if g.2 = .dma (sendS d) then accPts g.1.1 d (accC m ρ g.1.1)
    else commPts g.1.1 d (commC m ρ g.1.1)
  amount_pos g _ _ _ := by
    by_cases h : g.2 = .reg barS
    · rw [if_pos h]; exact Nat.one_pos
    · rw [if_neg h]; exact N_pos

/-- Whatever a duty hands over may be kept in a cell. -/
instance moeRd_payload_storable (g : GSem nD τ sig) (r : ℕ) (d : Dev nD) :
    BI.Storable (upEmb : UEmb _ 𝕄) ((moeRd (F := F) m ρ).payload g r d) := by
  show BI.Storable upEmb (if g.2 = .reg barS then iprop(∃ f, commPts d g.1.1 f)
    else if g.2 = .dma (sendS d) then accPts g.1.1 d (accC m ρ g.1.1) else commPts g.1.1 d (commC m ρ g.1.1))
  (repeat' split) <;> infer_instance

/-- No send semaphore is the barrier. -/
theorem send_ne_bar (t : Dev nD) : (SemLoc.dma (sendS t) : SemLoc sig) ≠ .reg barS := fun h => by cases h
/-- No receive semaphore is the barrier. -/
theorem recv_ne_bar (t : Dev nD) : (SemLoc.dma (recvS t) : SemLoc sig) ≠ .reg barS := fun h => by cases h
/-- Send and receive locations differ. -/
theorem send_ne_recv (t t' : Dev nD) : (SemLoc.dma (sendS t) : SemLoc sig) ≠ .dma (recvS t') := fun h => sendS_ne_recvS t t' (SemLoc.dma.inj h)
/-- The same, the other way round. -/
theorem recv_ne_send (t t' : Dev nD) : (SemLoc.dma (recvS t) : SemLoc sig) ≠ .dma (sendS t') := fun h => sendS_ne_recvS t' t (SemLoc.dma.inj h).symm

section Sched
variable (c : Dev nD)

/-- The barrier is paid by every other device. -/
theorem duties_bar : (moeRd (F := F) m ρ).duties (barCell c) 0 = Finset.univ.filter (· ≠ c) := by
  dsimp only [moeRd]; rw [if_pos rfl]
  exact Finset.filter_congr fun d _ => ⟨fun h => h.2.1, fun h => ⟨rfl, h, .inl rfl⟩⟩
/-- The send cell `t` is paid by the transfer to `t`. -/
theorem duties_send {t : Dev nD} (h : t ≠ c) : (moeRd (F := F) m ρ).duties (sendCell c t) 0 = {t} := by
  dsimp only [moeRd]; rw [if_pos rfl]
  ext d; rw [Finset.mem_filter, Finset.mem_singleton]
  constructor
  · rintro ⟨-, -, -, h1 | h1 | h1⟩
    · exact absurd h1 (send_ne_bar t)
    · exact (sendS_inj (SemLoc.dma.inj h1)).symm
    · exact absurd h1 (send_ne_recv t d)
  · rintro rfl; exact ⟨Finset.mem_univ _, rfl, h, .inr (.inl rfl)⟩
/-- The receive cell `t` is paid by device `t`. -/
theorem duties_recv {t : Dev nD} (h : t ≠ c) : (moeRd (F := F) m ρ).duties (recvCell c t) 0 = {t} := by
  dsimp only [moeRd]; rw [if_pos rfl]
  ext d; rw [Finset.mem_filter, Finset.mem_singleton]
  constructor
  · rintro ⟨-, -, -, h1 | h1 | h1⟩
    · exact absurd h1 (recv_ne_bar t)
    · exact absurd h1 (recv_ne_send t d)
    · exact (recvS_inj (SemLoc.dma.inj h1)).symm
  · rintro rfl; exact ⟨Finset.mem_univ _, rfl, h, .inr (.inr rfl)⟩
/-- No cell is paid after its first round. -/
theorem duties_later (g : GSem nD τ sig) : ∀ r, 1 ≤ r → (moeRd (F := F) m ρ).duties g r = ∅ :=
  fun r hr => by dsimp only [moeRd]; rw [if_neg (by omega)]
/-- A device's send and receive cells that bear its own number are never paid. -/
theorem duties_self_send : ∀ r, 0 ≤ r → (moeRd (F := F) m ρ).duties (sendCell c c) r = ∅ := fun r _ => by
  dsimp only [moeRd]; split
  · rw [Finset.filter_eq_empty_iff]; rintro d - ⟨-, h2, h1 | h1 | h1⟩
    · exact absurd h1 (send_ne_bar c)
    · exact h2 (sendS_inj (SemLoc.dma.inj h1)).symm
    · exact absurd h1 (send_ne_recv c d)
  · rfl
/-- The device's receive cell for itself is never paid. -/
theorem duties_self_recv : ∀ r, 0 ≤ r → (moeRd (F := F) m ρ).duties (recvCell c c) r = ∅ := fun r _ => by
  dsimp only [moeRd]; split
  · rw [Finset.filter_eq_empty_iff]; rintro d - ⟨-, h2, h1 | h1 | h1⟩
    · exact absurd h1 (recv_ne_bar c)
    · exact absurd h1 (recv_ne_send c d)
    · exact h2 (recvS_inj (SemLoc.dma.inj h1)).symm
  · rfl

/-- A barrier duty is one unit. -/
theorem amount_bar (d : Dev nD) : (moeRd (F := F) m ρ).amount (barCell c) 0 d = 1 := by dsimp only [moeRd]; exact if_pos rfl
/-- A send duty is a block's credit. -/
theorem amount_send (t d : Dev nD) : (moeRd (F := F) m ρ).amount (sendCell c t) 0 d = N := by dsimp only [moeRd]; exact if_neg (send_ne_bar t)
/-- A receive duty is a block's credit. -/
theorem amount_recv (t d : Dev nD) : (moeRd (F := F) m ρ).amount (recvCell c t) 0 d = N := by dsimp only [moeRd]; exact if_neg (recv_ne_bar t)

/-- The barrier expects fifteen units. -/
theorem expect_bar : (moeRd (F := F) m ρ).expect (barCell c) 0 = 15 := by
  unfold Schedule.expect Schedule.amountOf
  rw [duties_bar, Finset.sum_congr rfl fun d _ => amount_bar m ρ c d, Finset.sum_const, smul_eq_mul, mul_one]
  revert c; decide
/-- A send cell expects a block's credit. -/
theorem expect_send {t : Dev nD} (h : t ≠ c) : (moeRd (F := F) m ρ).expect (sendCell c t) 0 = N := by
  unfold Schedule.expect Schedule.amountOf; rw [duties_send m ρ c h, Finset.sum_singleton, amount_send]
/-- A receive cell expects a block's credit. -/
theorem expect_recv {t : Dev nD} (h : t ≠ c) : (moeRd (F := F) m ρ).expect (recvCell c t) 0 = N := by
  unfold Schedule.expect Schedule.amountOf; rw [duties_recv m ρ c h, Finset.sum_singleton, amount_recv]

/-- A barrier duty hands over the payer's slot for `c`. -/
theorem payload_bar (d : Dev nD) : (moeRd (F := F) m ρ).payload (barCell c) 0 d = iprop(∃ f, commPts d c f) := by
  dsimp only [moeRd]; rw [if_pos rfl]
/-- A send's end gives the rows back. -/
theorem payload_send (t : Dev nD) : (moeRd (F := F) m ρ).payload (sendCell c t) 0 t = accPts c t (accC m ρ c) := by
  dsimp only [moeRd]; rw [if_neg (send_ne_bar t), if_pos rfl]
/-- An arrival hands over the slot, filled. -/
theorem payload_recv (t : Dev nD) : (moeRd (F := F) m ρ).payload (recvCell c t) 0 t = commPts c t (commC m ρ c) := by
  dsimp only [moeRd]; rw [if_neg (recv_ne_bar t), if_neg (recv_ne_send t t)]

/-- All that the barrier hands over: every other device's slot for `c`. -/
theorem rest_bar : bigSep ((moeRd (F := F) m ρ).duties (barCell c) 0 \ ∅) (fun d => (moeRd (F := F) m ρ).payload (barCell c) 0 d)
    = bigSep (Finset.univ.filter (· ≠ c)) (fun d => iprop(∃ f, commPts d c f)) := by
  rw [Finset.sdiff_empty, duties_bar]; exact bigSep_congr fun d _ => payload_bar m ρ c d
/-- All that a send cell hands over. -/
theorem rest_send {t : Dev nD} (h : t ≠ c) : bigSep ((moeRd (F := F) m ρ).duties (sendCell c t) 0 \ ∅) (fun d => (moeRd (F := F) m ρ).payload (sendCell c t) 0 d)
    = accPts c t (accC m ρ c) := by
  rw [Finset.sdiff_empty, duties_send m ρ c h, bigSep_singleton, payload_send]
/-- All that a receive cell hands over. -/
theorem rest_recv {t : Dev nD} (h : t ≠ c) : bigSep ((moeRd (F := F) m ρ).duties (recvCell c t) 0 \ ∅) (fun d => (moeRd (F := F) m ρ).payload (recvCell c t) 0 d)
    = commPts c t (commC m ρ c) := by
  rw [Finset.sdiff_empty, duties_recv m ρ c h, bigSep_singleton, payload_recv]

end Sched

/-! ## What a device owes; the order of the waits -/

/-- The steps from `k` on, of a device's sixteen. -/
def from_ (k : ℕ) : Finset (Fin 16) := Finset.univ.filter (k ≤ ·.val)

/-- The device that `c` signals at step `s` (at step 0 it would be `c` itself). -/
def sg (c : Dev nD) (s : Fin 16) : Dev nD := ⟨(c.val + s.val) % 16, Nat.mod_lt _ (by decide)⟩
/-- The device that `c` sends to at step `n`: four row blocks at a time, the far half of the devices first. -/
def dst (c : Dev nD) (n : Fin 16) : Dev nD :=
  ⟨4 * (if c.val / 4 < 2 then 3 - n.val / 4 else n.val / 4) + n.val % 4, by
    have h1 := n.isLt; show _ < 16; split <;> omega⟩
/-- The device whose contribution `c` waits for at step `s` (at step 0 it would be `c` itself). -/
def rv (c : Dev nD) (s : Fin 16) : Dev nD := ⟨(c.val + 16 - s.val) % 16, Nat.mod_lt _ (by decide)⟩

/-- The sixteen steps signal every device once. -/
theorem sg_bij (c : Dev nD) : Function.Bijective (sg c) := Finite.injective_iff_bijective.mp (by revert c; decide +kernel)
/-- The sixteen steps send to every device once. -/
theorem dst_bij (c : Dev nD) : Function.Bijective (dst c) := Finite.injective_iff_bijective.mp (by revert c; decide +kernel)
/-- The sixteen steps wait for every device once. -/
theorem rv_bij (c : Dev nD) : Function.Bijective (rv c) := Finite.injective_iff_bijective.mp (by revert c; decide +kernel)
/-- The devices in the order in which `c` signals them. -/
def sgE (c : Dev nD) : Fin 16 ≃ Dev nD := Equiv.ofBijective (sg c) (sg_bij c)
/-- The devices in the order in which `c` sends to them. -/
def dstE (c : Dev nD) : Fin 16 ≃ Dev nD := Equiv.ofBijective (dst c) (dst_bij c)
/-- The devices in the order in which `c` waits for them. -/
def rvE (c : Dev nD) : Fin 16 ≃ Dev nD := Equiv.ofBijective (rv c) (rv_bij c)

/-- From step 1 on the device signalled is another one. -/
theorem sg_ne (c : Dev nD) (s : Fin 16) (h : 1 ≤ s.val) : sg c s ≠ c := fun e => by
  have h1 := congrArg Fin.val e; have h2 : c.val < 16 := c.isLt; have h3 := s.isLt; simp only [sg] at h1; omega
/-- From step 1 on the device waited for is another one. -/
theorem rv_ne (c : Dev nD) (s : Fin 16) (h : 1 ≤ s.val) : rv c s ≠ c := fun e => by
  have h1 := congrArg Fin.val e; have h2 : c.val < 16 := c.isLt; have h3 := s.isLt; simp only [rv] at h1; omega

/-- A unit to each barrier cell still to be signalled from step `k` on. -/
def Obar (c : Dev nD) (k : ℕ) : CellTallies nD τ sig Unit := ∑ s ∈ from_ k, tallyAt (barCell (sg c s)) () 1
/-- A block's credit to the receive cell number `c` of each device still to be sent to from step `k` on. -/
def Orecv (c : Dev nD) (k : ℕ) : CellTallies nD τ sig Unit :=
  ∑ n ∈ from_ k, if dst c n = c then 0 else tallyAt (recvCell (dst c n) c) () N
/-- What device `c` owes at launch. -/
def O₀ (c : Dev nD) : CellTallies nD τ sig Unit := Orecv c 0 + Obar c 1

/-- The cells of the devices' cores carry levels. -/
def L (g : GSem nD τ sig) : Finset Unit := if g.1.2 = .tc then {()} else ∅
/-- Barrier cells at 1, receive cells at 2, everything else at 0. -/
def lv (g : GSem nD τ sig) (_ : Unit) : ℕ :=
  if g.2 = .reg barS then 1 else if ∃ t : Dev nD, g.2 = .dma (recvS t) then 2 else 0

/-- No other cell does. -/
theorem L_of_ne (g : GSem nD τ sig) (h : g.1.2 ≠ .tc) : L g = ∅ := if_neg h
/-- Those of a core do. -/
theorem L_tc (c : Dev nD) (sm : SemLoc sig) : L ((c : Thread nD τ), sm) = {()} := if_pos rfl
/-- A barrier cell's level. -/
theorem lv_bar (c : Dev nD) : lv (barCell c) () = 1 := if_pos rfl
/-- A receive cell's level. -/
theorem lv_recv (c t : Dev nD) : lv (recvCell c t) () = 2 := by
  unfold lv; rw [if_neg (recv_ne_bar t), if_pos ⟨t, rfl⟩]

/-- The signals are owed to barrier cells only. -/
theorem Obar_pos {c : Dev nD} {T : ℕ} {g : GSem nD τ sig} {u : Unit} (h : 0 < Obar c T g u) : ∃ d, g = barCell d := by
  by_contra hn
  refine absurd h (Nat.not_lt.2 (Nat.le_of_eq ?_))
  unfold Obar
  rw [Finset.sum_apply, Finsupp.finset_sum_apply]
  exact Finset.sum_eq_zero fun d _ => by rw [tallyAt_apply, if_neg fun h' => hn ⟨_, h'.1⟩]
/-- The sends are owed to receive cells only. -/
theorem Orecv_pos {c : Dev nD} {T : ℕ} {g : GSem nD τ sig} {u : Unit} (h : 0 < Orecv c T g u) : ∃ t, g = recvCell t c := by
  by_contra hn
  refine absurd h (Nat.not_lt.2 (Nat.le_of_eq ?_))
  unfold Orecv
  rw [Finset.sum_apply, Finsupp.finset_sum_apply]
  refine Finset.sum_eq_zero fun d _ => ?_
  split
  · rfl
  · rw [tallyAt_apply, if_neg fun h' => hn ⟨_, h'.1⟩]

/-- A wait on a semaphore that is neither a barrier nor a receive cell: whatever the launch debt. -/
theorem mayWait_stage (c : Dev nD) (q : DmaSem sig) (hq : ∀ t : Dev nD, SemLoc.dma q ≠ .dma (recvS t)) (O : CellTallies nD τ sig Unit) (hO : O = O₀ c ∨ O = 0) :
    (levAts L lv : sProp 𝕄) ⊢ MayWait (c : Thread nD τ) (.dma q) () O := by
  rcases hO with rfl | rfl
  · have key : ∀ g u, 0 < O₀ c g u → (∃ d, g = barCell d) ∨ ∃ t, g = recvCell t c := fun g u hg => by
      unfold O₀ at hg
      rw [Pi.add_apply, Finsupp.add_apply] at hg
      rcases Nat.eq_zero_or_pos (Orecv c 0 g u) with h0 | h0
      · rw [h0, Nat.zero_add] at hg; exact .inl (Obar_pos hg)
      · exact .inr (Orecv_pos h0)
    refine MayOwe.of_cut (L := L) (lev := lv) 0 (fun p hp => by rw [Finset.mem_singleton.mp hp, L_tc]; exact Finset.mem_singleton_self _)
      (fun g u hg => by rcases key g u hg with ⟨d, rfl⟩ | ⟨d, rfl⟩ <;> exact Finset.mem_singleton_self _)
      (fun p hp => by
        rw [Finset.mem_singleton.mp hp]; dsimp only [lv]
        rw [if_neg (fun h => by cases h), if_neg (fun ⟨t, h⟩ => hq t h)])
      (fun g u hg => by
        rcases key g u hg with ⟨d, rfl⟩ | ⟨d, rfl⟩
        · rw [lv_bar]; decide
        · rw [lv_recv]; decide)
  · rw [MayWait_zero]; iintro -; iempintro

/-- At its barrier wait a device owes receive cells only, above its barrier cell. -/
theorem mayWait_bar (c : Dev nD) (T : ℕ) :
    (levAts L lv : sProp 𝕄) ⊢ MayWait (c : Thread nD τ) (.reg barS) () (Orecv c T) :=
  MayOwe.of_cut (L := L) (lev := lv) 1 (fun p hp => by rw [Finset.mem_singleton.mp hp, L_tc]; exact Finset.mem_singleton_self _)
    (fun g u hg => by obtain ⟨t, rfl⟩ := Orecv_pos hg; exact Finset.mem_singleton_self _)
    (fun p hp => by rw [Finset.mem_singleton.mp hp]; exact Nat.le_of_eq (lv_bar c))
    (fun g u hg => by obtain ⟨t, rfl⟩ := Orecv_pos hg; rw [lv_recv]; decide)

/-! ## The cells as one family, and their records -/

/-- A device's cells: the barrier, the sixteen send cells, the sixteen receive cells. -/
abbrev CK : Type := Unit ⊕ (Dev nD ⊕ Dev nD)
/-- The kernel's own semaphores: the send and the receive array. -/
abbrev osem : Dev nD ⊕ Dev nD → SemLoc sig := fun | .inl t => .dma (sendS t) | .inr t => .dma (recvS t)
/-- The semaphore of a device's cell. -/
abbrev csem : CK → SemLoc sig := fun | .inl _ => .reg barS | .inr k => osem k
/-- The cell of a device. -/
abbrev kcell (ck : Dev nD × CK) : GSem nD τ sig := ((ck.1 : Thread nD τ), csem ck.2)

/-- Every cell's invariant, at the names `K`, and that every cell has reached its round. -/
def records (K : Dev nD × CK → ℕ) : sProp 𝕄 :=
  iprop((bigSep Finset.univ fun ck : Dev nD × CK => cellInv ER (moeRd m ρ) (K ck) (kcell ck))
    ∗ bigSep Finset.univ fun ck : Dev nD × CK => reached ER (kcell ck) 0)

/-- The records may be used any number of times. -/
instance records_persistent (K : Dev nD × CK → ℕ) : BI.Persistent (records m ρ K) := by unfold records; infer_instance

/-- The record of one cell. -/
theorem rec_at (K : Dev nD × CK → ℕ) (ck : Dev nD × CK) :
    records m ρ K ⊢ iprop(cellInv ER (moeRd m ρ) (K ck) (kcell ck) ∗ reached ER (kcell ck) 0) := by
  unfold records
  exact BI.sep_mono (bigSep_elim (Finset.mem_univ ck)) (bigSep_elim (Finset.mem_univ ck))

/-! ## Sixteen steps, some of them done -/

/-- Before step `k`: the steps from `k` on hold their `P`, those done their `R`. -/
def st (k : ℕ) (P R : Fin 16 → sProp 𝕄) : sProp 𝕄 := bigSep Finset.univ fun n => if k ≤ n.val then P n else R n

/-- Step `n` takes its `P`, and goes on once its `R` is given. -/
theorem st_take (P R : Fin 16 → sProp 𝕄) (n : Fin 16) : st n.val P R ⊢ iprop(P n ∗ (R n -∗ st (n.val + 1) P R)) := by
  unfold st
  have e : bigSep (Finset.univ.erase n) (fun j : Fin 16 => if n.val ≤ j.val then P j else R j)
      = bigSep (Finset.univ.erase n) (fun j : Fin 16 => if n.val + 1 ≤ j.val then P j else R j) :=
    bigSep_congr fun j hj => by
      have hne : j.val ≠ n.val := fun h => (Finset.mem_erase.mp hj).1 (Fin.ext h)
      by_cases h : n.val ≤ j.val
      · rw [if_pos h, if_pos (by omega)]
      · rw [if_neg h, if_neg (by omega)]
  rw [bigSep_univ_at _ n, bigSep_univ_at (fun j : Fin 16 => if n.val + 1 ≤ j.val then P j else R j) n,
    e, if_pos (le_refl _), if_neg (by omega)]
  iintro ⟨HP, Hr⟩
  isplitl [HP]; · iexact HP
  iintro HR
  isplitl [HR]; · iexact HR
  iexact Hr

/-- Before step 0 every step holds its `P`. -/
theorem st_start (P R : Fin 16 → sProp 𝕄) : st 0 P R = bigSep Finset.univ P := by
  unfold st; exact bigSep_congr fun n _ => if_pos (Nat.zero_le _)
/-- After the last step every step holds its `R`. -/
theorem st_end (P R : Fin 16 → sProp 𝕄) : st 16 P R = bigSep Finset.univ R := by
  unfold st; exact bigSep_congr fun n _ => if_neg (by have := n.isLt; omega)

/-- The steps from `n` on are `n` and those after it. -/
theorem from_eq (n : Fin 16) : from_ n.val = insert n (from_ (n.val + 1)) := by revert n; decide
/-- `n` is not after itself. -/
theorem from_not_mem (n : Fin 16) : n ∉ from_ (n.val + 1) := by revert n; decide
/-- Nothing is left after sixteen steps. -/
theorem from_end : from_ 16 = ∅ := by decide

/-- What signal `n` pays. -/
theorem Obar_step (c : Dev nD) (n : Fin 16) : Obar c n.val = Obar c (n.val + 1) + tallyAt (barCell (sg c n)) () 1 := by
  unfold Obar; rw [from_eq, Finset.sum_insert (from_not_mem n), add_comm]
/-- After all signals no barrier is owed anything. -/
theorem Obar_end (c : Dev nD) : Obar c 16 = 0 := by unfold Obar; rw [from_end, Finset.sum_empty]
/-- What send `n` pays. -/
theorem Orecv_step (c : Dev nD) (n : Fin 16) :
    Orecv c n.val = Orecv c (n.val + 1) + (if dst c n = c then 0 else tallyAt (recvCell (dst c n) c) () N) := by
  unfold Orecv; rw [from_eq, Finset.sum_insert (from_not_mem n), add_comm]
/-- After all sends no receive cell is owed anything. -/
theorem Orecv_end (c : Dev nD) : Orecv c 16 = 0 := by unfold Orecv; rw [from_end, Finset.sum_empty]

end Cert.KernelIdeal.Moe

end

end
-- ==== Proof.Views.lean ====
/-
# The blocks of the two shared arrays

The partial result is written in four blocks of 128 rows and sent in sixteen blocks of 32 rows; the landing array is
received in sixteen slots. Here: which elements each block is, that the blocks make up the arrays, and what reading a
block of the stated contents gives.
-/
module

public import proofs.«01_k».proof.Proof.Proto
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ValueLayout

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]
local notation "𝕄" => MT nD τ sig Unit (Elt F) ℕ UU ℕ
variable (m : (ℓ : Loc nD τ sig) → Buf (Elt F) ℓ) (ρ : Dev nD → PrngReg)

attribute [local irreducible] k0_pay1 k0_pay2 k0_pay4 k0_pay5 k0_pay6 k0_pay7

/-- Elements just written through a view hold `g` if `g` reads there as what was written. -/
theorem written {κ : Kind} {sp : Space} {s : Shape} {e : EltTy} (v : View sig κ sp s e)
    (f g : v.ty.Contents (Elt F)) (w : s.Idx → Elt F e) (hg : v.read (Elt F) g = w) :
    ∀ i ∈ v.set, v.write (Elt F) f w Finset.univ i = g i := by
  subst hg
  intro i hi
  rw [View.write_read_eq_piecewise]
  exact Finset.piecewise_eq_of_mem _ _ _ hi

/-! ## The slots of the landing array -/

/-- Where an element of slot `t` lies in the landing array. -/
theorem comm_emb (t : Dev nD) (a : Fin 32) (b : Fin 512) :
    (commV t).view.emb (ix2 a b) = (ix3 (⟨t.val, t.isLt⟩ : Fin 16) a b : S16x32x512.Idx) := by
  show (Rect.unit (s := S16x32x512) ![t.val, 0, 0] S1x32x512.size (comm_inb t)).emb
    (Shape.reshapeEquiv squeezes_S1x32x512_S32x512.numel_eq (ix2 a b)) = _
  rw [reshapeEquiv_ix2_1ab]
  funext d
  match d with
  | ⟨0, _⟩ => exact Fin.ext (by show t.val + 1 * 0 = t.val; omega)
  | ⟨1, _⟩ => exact Fin.ext (by show 0 + 1 * a.val = a.val; omega)
  | ⟨2, _⟩ => exact Fin.ext (by show 0 + 1 * b.val = b.val; omega)

/-- Where an element of the rows of device `t` lies in the partial result. -/
theorem acc_emb (t : Dev nD) (a : Fin 32) (b : Fin 512) :
    (accV t).view.emb (ix2 a b) = (ix2 (⟨32 * t.val + a.val, by have h : t.val < 16 := t.isLt; omega⟩ : Fin 512) b : S512x512.Idx) := by
  show (Rect.unit (s := S512x512) ![32 * t.val, 0] S32x512.size (acc_inb t)).emb (ix2 a b) = _
  funext d
  match d with
  | ⟨0, _⟩ => exact Fin.ext (by show 32 * t.val + 1 * a.val = 32 * t.val + a.val; omega)
  | ⟨1, _⟩ => exact Fin.ext (by show 0 + 1 * b.val = b.val; omega)

/-- The elements of slot `t` as a rectangle. -/
theorem comm_set (t : Dev nD) : (commV t).view.set = (Rect.unit (s := S16x32x512) ![t.val, 0, 0] S1x32x512.size (comm_inb t)).set := by
  show (((View.whole cc0_scratch1).slice (Rect.unit (s := S16x32x512) ![t.val, 0, 0] S1x32x512.size (comm_inb t))).reshape S32x512 squeezes_S1x32x512_S32x512.numel_eq).set = _
  rw [View.set_reshape]
  exact View.set_slice_whole _ _

/-- An element lies in slot `t` where its first coordinate is `t`. -/
theorem mem_comm (t : Dev nD) (i : S16x32x512.Idx) : i ∈ (commV t).view.set ↔ (i 0).val = t.val := by
  rw [comm_set, Rect.mem_set_unit]
  have h0 : (i 0).val < 16 := (i 0).isLt
  have h1 : (i 1).val < 32 := (i 1).isLt
  have h2 : (i 2).val < 512 := (i 2).isLt
  constructor
  · intro h
    have := h 0
    have h3 : t.val ≤ (i 0).val ∧ (i 0).val < t.val + 1 := this
    omega
  · intro h a
    match a with
    | ⟨0, _⟩ => show t.val ≤ (i 0).val ∧ (i 0).val < t.val + 1; omega
    | ⟨1, _⟩ => show 0 ≤ (i 1).val ∧ (i 1).val < 0 + 32; omega
    | ⟨2, _⟩ => show 0 ≤ (i 2).val ∧ (i 2).val < 0 + 512; omega

/-- An element lies in the rows of device `t` where its row divided by 32 is `t`. -/
theorem mem_acc (t : Dev nD) (i : S512x512.Idx) : i ∈ (accV t).view.set ↔ (i 0).val / 32 = t.val := by
  rw [show (accV t).view.set = (Rect.unit (s := S512x512) ![32 * t.val, 0] S32x512.size (acc_inb t)).set from View.set_slice_whole _ _, Rect.mem_set_unit]
  have h0 : (i 0).val < 512 := (i 0).isLt
  have h1 : (i 1).val < 512 := (i 1).isLt
  constructor
  · intro h
    have h3 : 32 * t.val ≤ (i 0).val ∧ (i 0).val < 32 * t.val + 32 := h 0
    omega
  · intro h a
    match a with
    | ⟨0, _⟩ => show 32 * t.val ≤ (i 0).val ∧ (i 0).val < 32 * t.val + 32; omega
    | ⟨1, _⟩ => show 0 ≤ (i 1).val ∧ (i 1).val < 0 + 512; omega

/-- What device `t`'s slot is to hold on device `c`, read through the slot, is `c`'s rows of `t`'s partial result. -/
theorem comm_read (c t : Dev nD) : (commV t).view.read (Elt F) (commC m ρ c) = (accV c).view.read (Elt F) (accC m ρ t) := by
  funext j
  obtain ⟨a, b, rfl⟩ : ∃ (a : Fin 32) (b : Fin 512), j = ix2 a b := ⟨j 0, j 1, ValueIdx.eq_ix2 j⟩
  rw [View.read_apply, View.read_apply, comm_emb, acc_emb]
  rfl

/-- The landing array is its sixteen slots. -/
theorem comm_slots (c : Dev nD) (f : Buf (Elt F) ((c : Thread nD τ).loc cc0_scratch1)) :
    (((c : Thread nD τ).loc cc0_scratch1) ↦{fullShare} f : sProp 𝕄) = bigSep Finset.univ fun t : Dev nD => commPts c t f := by
  unfold commPts
  have hd : ∀ t ∈ (Finset.univ : Finset (Dev nD)), ∀ t' ∈ (Finset.univ : Finset (Dev nD)), t ≠ t' → Disjoint (commV t).view.set (commV t').view.set :=
    fun t _ t' _ hne => Finset.disjoint_left.mpr fun i hi hi' => hne (Fin.ext (((mem_comm t i).mp hi).symm.trans ((mem_comm t' i).mp hi')))
  have hu : (Finset.univ : Finset (Dev nD)).biUnion (fun t => (commV t).view.set) = Finset.univ :=
    Finset.eq_univ_iff_forall.mpr fun i => Finset.mem_biUnion.mpr ⟨(⟨(i 0).val, (i 0).isLt⟩ : Fin 16), Finset.mem_univ _, (mem_comm _ i).mpr rfl⟩
  have h := pointsTo_biUnion (Ix := Unit) (Name := ℕ) (U := UU) (Lvl := ℕ) (ℓ := (c : Thread nD τ).loc cc0_scratch1) (q := fullShare) (f := f) Finset.univ (fun t : Dev nD => (commV t).view.set) hd
  rw [hu] at h
  exact h

/-- The partial result's array is its sixteen row blocks. -/
theorem acc_slots (c : Dev nD) (f : Buf (Elt F) ((c : Thread nD τ).loc cc0_scratch0)) :
    (((c : Thread nD τ).loc cc0_scratch0) ↦{fullShare} f : sProp 𝕄) = bigSep Finset.univ fun t : Dev nD => accPts c t f := by
  unfold accPts
  have hd : ∀ t ∈ (Finset.univ : Finset (Dev nD)), ∀ t' ∈ (Finset.univ : Finset (Dev nD)), t ≠ t' → Disjoint (accV t).view.set (accV t').view.set :=
    fun t _ t' _ hne => Finset.disjoint_left.mpr fun i hi hi' => hne (Fin.ext (((mem_acc t i).mp hi).symm.trans ((mem_acc t' i).mp hi')))
  have hu : (Finset.univ : Finset (Dev nD)).biUnion (fun t => (accV t).view.set) = Finset.univ :=
    Finset.eq_univ_iff_forall.mpr fun i => Finset.mem_biUnion.mpr
      ⟨(⟨(i 0).val / 32, by have h : (i 0).val < 512 := (i 0).isLt; omega⟩ : Fin 16), Finset.mem_univ _, (mem_acc _ i).mpr rfl⟩
  have h := pointsTo_biUnion (Ix := Unit) (Name := ℕ) (U := UU) (Lvl := ℕ) (ℓ := (c : Thread nD τ).loc cc0_scratch0) (q := fullShare) (f := f) Finset.univ (fun t : Dev nD => (accV t).view.set) hd
  rw [hu] at h
  exact h

/-! ## The four blocks of 128 rows -/

/-- The block computed at step `j`: the far half of the rows first. -/
def blk (c : Dev nD) (j : Fin 4) : Fin 4 := ⟨if c.val / 4 < 2 then 3 - j.val else j.val, by split <;> omega⟩

/-- Block `b` of 128 rows lies inside the partial result. -/
theorem row_inb (b : Fin 4) : ∀ a, (![128 * b.val, 0] : Fin 2 → Nat) a + S128x512.size a ≤ S512x512.size a := by
  revert b; decide
/-- Block `b` of 128 rows. -/
abbrev rowR (b : Fin 4) : Rect S512x512 := Rect.unit ![128 * b.val, 0] S128x512.size (row_inb b)

/-- The four row blocks that step `j` fills, as the sends of steps `4 j … 4 j + 3` name them. -/
def quad (c : Dev nD) (j : Fin 4) (t : Fin 4) : Dev nD := dst c ⟨4 * j.val + t.val, by omega⟩

/-- An element lies in block `b` where its row divided by 128 is `b`. -/
theorem mem_row (b : Fin 4) (i : S512x512.Idx) : i ∈ (accM.access (rowR b)).set ↔ (i 0).val / 128 = b.val := by
  rw [show (accM.access (rowR b)).set = (rowR b).set from View.set_slice_whole _ _, Rect.mem_set_unit]
  have h0 : (i 0).val < 512 := (i 0).isLt
  have h1 : (i 1).val < 512 := (i 1).isLt
  constructor
  · intro h
    have h3 : 128 * b.val ≤ (i 0).val ∧ (i 0).val < 128 * b.val + 128 := h 0
    omega
  · intro h a
    match a with
    | ⟨0, _⟩ => show 128 * b.val ≤ (i 0).val ∧ (i 0).val < 128 * b.val + 128; omega
    | ⟨1, _⟩ => show 0 ≤ (i 1).val ∧ (i 1).val < 0 + 512; omega

/-- The four row blocks of step `j` are those of its block of 128 rows. -/
theorem quad_val (c : Dev nD) (j t : Fin 4) : (quad c j t).val = 4 * (blk c j).val + t.val := by
  revert c j t; decide +kernel

/-- Device `c` holds the block of 128 rows that it computes at step `j`. -/
def rowPts (c : Dev nD) (b : Fin 4) (f : Buf (Elt F) ((c : Thread nD τ).loc cc0_scratch0)) : sProp 𝕄 :=
  (accM.access (rowR b)).loc (c : Thread nD τ) ↦[(accM.access (rowR b)).set]{fullShare} f

/-- A block of 128 rows is four of 32 rows. -/
theorem row_quads (c : Dev nD) (j : Fin 4) (f : Buf (Elt F) ((c : Thread nD τ).loc cc0_scratch0)) :
    (rowPts c (blk c j) f : sProp 𝕄) = bigSep Finset.univ fun t : Fin 4 => accPts c (quad c j t) f := by
  unfold rowPts accPts
  have hd : ∀ t ∈ (Finset.univ : Finset (Fin 4)), ∀ t' ∈ (Finset.univ : Finset (Fin 4)), t ≠ t' →
      Disjoint (accV (quad c j t)).view.set (accV (quad c j t')).view.set :=
    fun t _ t' _ hne => Finset.disjoint_left.mpr fun i hi hi' => hne (Fin.ext (by
      have h1 := (mem_acc _ i).mp hi; have h2 := (mem_acc _ i).mp hi'
      rw [quad_val] at h1 h2; omega))
  have hu : (Finset.univ : Finset (Fin 4)).biUnion (fun t => (accV (quad c j t)).view.set) = (accM.access (rowR (blk c j))).set := by
    ext i
    rw [Finset.mem_biUnion, mem_row]
    constructor
    · rintro ⟨t, -, h⟩; have h1 := (mem_acc _ i).mp h; rw [quad_val] at h1; have := t.isLt; omega
    · intro h
      have hq : (i 0).val / 32 = (quad c j ⟨(i 0).val / 32 % 4, Nat.mod_lt _ (by decide)⟩).val := by
        rw [quad_val, ← h, ← Nat.div_div_eq_div_mul (i 0).val 32 4]
        show (i 0).val / 32 = 4 * ((i 0).val / 32 / 4) + (i 0).val / 32 % 4
        omega
      exact ⟨⟨(i 0).val / 32 % 4, Nat.mod_lt _ (by decide)⟩, Finset.mem_univ _, (mem_acc (quad c j _) i).mpr hq⟩
  have h := pointsTo_biUnion (Ix := Unit) (Name := ℕ) (U := UU) (Lvl := ℕ) (ℓ := (c : Thread nD τ).loc cc0_scratch0) (q := fullShare) (f := f) Finset.univ (fun t : Fin 4 => (accV (quad c j t)).view.set) hd
  rw [hu] at h
  exact h

/-- Every block is computed at some step. -/
theorem blk_surj (c : Dev nD) (b : Fin 4) : ∃ j, blk c j = b := by revert c b; decide +kernel
/-- Different steps compute different blocks. -/
theorem blk_inj (c : Dev nD) (j j' : Fin 4) (h : blk c j = blk c j') : j = j' := by revert c j j'; decide +kernel

/-- The whole array is the four blocks, in the order they are computed. -/
theorem acc_rows (c : Dev nD) (f : Buf (Elt F) ((c : Thread nD τ).loc cc0_scratch0)) :
    (((c : Thread nD τ).loc cc0_scratch0) ↦{fullShare} f : sProp 𝕄) = bigSep Finset.univ fun j : Fin 4 => rowPts c (blk c j) f := by
  unfold rowPts
  have hd : ∀ t ∈ (Finset.univ : Finset (Fin 4)), ∀ t' ∈ (Finset.univ : Finset (Fin 4)), t ≠ t' →
      Disjoint (accM.access (rowR (blk c t))).set (accM.access (rowR (blk c t'))).set :=
    fun t _ t' _ hne => Finset.disjoint_left.mpr fun i hi hi' => hne (blk_inj c t t' (Fin.ext (((mem_row _ i).mp hi).symm.trans ((mem_row _ i).mp hi'))))
  have hu : (Finset.univ : Finset (Fin 4)).biUnion (fun j => (accM.access (rowR (blk c j))).set) = Finset.univ :=
    Finset.eq_univ_iff_forall.mpr fun (i : S512x512.Idx) => by
      obtain ⟨j, hj⟩ := blk_surj c ⟨(i 0).val / 128, by have h : (i 0).val < 512 := (i 0).isLt; omega⟩
      exact Finset.mem_biUnion.mpr ⟨j, Finset.mem_univ _, (mem_row _ i).mpr (by rw [hj])⟩
  have h := pointsTo_biUnion (Ix := Unit) (Name := ℕ) (U := UU) (Lvl := ℕ) (ℓ := (c : Thread nD τ).loc cc0_scratch0) (q := fullShare) (f := f) Finset.univ (fun j : Fin 4 => (accM.access (rowR (blk c j))).set) hd
  rw [hu] at h
  exact h

/-- Reading a block of 128 rows of the scaled tokens. -/
theorem xg_read (c : Dev nD) (b : Fin 4) : (xgM.access (rowR b)).read (Elt F) (xgC m ρ c) = xgBlk m ρ c b := by
  funext j
  show xgC m ρ c ((rowR b).emb j) = xgC m ρ c _
  congr 1
  funext d
  match d with
  | ⟨0, _⟩ => exact Fin.ext (by show 128 * b.val + 1 * (j 0).val = 128 * b.val + (j 0).val; omega)
  | ⟨1, _⟩ => exact Fin.ext (by show 0 + 1 * (j 1).val = (j 1).val; omega)

/-- Reading a block of 128 rows of the partial result. -/
theorem acc_read (c : Dev nD) (b : Fin 4) : (accM.access (rowR b)).read (Elt F) (accC m ρ c) = k0_pay7 (xgBlk m ρ c b) (wC m ρ c) := by
  funext j
  have h128 : (j 0).val < 128 := (j 0).isLt
  have e0 : (((rowR b).emb j) 0).val = 128 * b.val + (j 0).val := by show 128 * b.val + 1 * (j 0).val = _; omega
  have e1 : (((rowR b).emb j) 1).val = (j 1).val := by show 0 + 1 * (j 1).val = _; omega
  show accC m ρ c ((rowR b).emb j) = _
  unfold accC
  congr 1
  · congr 1; exact Fin.ext (by show (((rowR b).emb j) 0).val / 128 = b.val; omega)
  · funext d
    match d with
    | ⟨0, _⟩ => exact Fin.ext (by show (((rowR b).emb j) 0).val % 128 = (j 0).val; omega)
    | ⟨1, _⟩ => exact Fin.ext e1

/-- The printed offset of block `j`. -/
theorem off1_0 (c : Dev nD) : k0_off1 c 3#32 0#32 = ![128 * (blk c 0).val, 0] := by revert c; decide +kernel
/-- The same of block 1. -/
theorem off1_1 (c : Dev nD) : k0_off1 c 2#32 1#32 = ![128 * (blk c 1).val, 0] := by revert c; decide +kernel
/-- The same of block 2. -/
theorem off1_2 (c : Dev nD) : k0_off1 c 1#32 2#32 = ![128 * (blk c 2).val, 0] := by revert c; decide +kernel
/-- The same of block 3. -/
theorem off1_3 (c : Dev nD) : k0_off1 c 0#32 3#32 = ![128 * (blk c 3).val, 0] := by revert c; decide +kernel

end Cert.KernelIdeal.Moe

end

end
-- ==== Proof.Steps.lean ====
/-
# One step of the protocol at a time

Each of the body's communication steps as one rule on the state of its sixteen: a barrier signal, a send (or none, for
the device's own rows), a wait for an arrival, and a wait for a send's end (or none).
-/
module

public import proofs.«01_k».proof.Proof.Views
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
local notation "𝕄" => MT nD τ sig Unit (Elt F) ℕ UU ℕ
variable (m : (ℓ : Loc nD τ sig) → Buf (Elt F) ℓ) (ρ : Dev nD → PrngReg)

/-- No loop needs a variant. -/
abbrev 𝒱₀ : Variants := Variants.none

omit [FloatOps F] in
/-- A transfer of one block credits the same wherever it goes. -/
theorem credit_block (v : View sig .tc .vmem S32x512 .bf16) : v.dmaCredit = N := rfl

/-- What device `c` owes, at some record of the waits it has made. -/
def debt (c : Dev nD) (O : CellTallies nD τ sig Unit) : sProp 𝕄 := iprop(∃ W : Waits sig Unit, owes (c : Thread nD τ) O W)

section Steps

variable (K : Dev nD × CK → ℕ) (c : Dev nD)

/-- Before its signal of step `s` a device holds the token of that duty and its slot for the device signalled. -/
def sigP (s : Fin 16) : sProp 𝕄 := iprop(dutyTok ER (barCell (sg c s)) 0 c ∗ ∃ f, commPts c (sg c s) f)
/-- After its signal a device keeps nothing of it. -/
def sigR (_ : Fin 16) : sProp 𝕄 := iprop(emp)

/-- One barrier signal: it pays the duty and hands over the slot. -/
theorem step_signal (s : Fin 16) (hs : 1 ≤ s.val) {dv : Dev nD} (hd : dv = sg c s)
    {α : Type} {Q : α → sProp 𝕄} {k : PUnit → Prog (TpuEff nD τ sig (Elt F) Λ₀ .tc) α} :
    iprop(records m ρ K ∗ debt c (Orecv c 0 + Obar c s.val) ∗ st s.val (sigP (F := F) c) (sigR (F := F)))
      ⊢ iprop(((debt c (Orecv c 0 + Obar c (s.val + 1)) ∗ st (s.val + 1) (sigP (F := F) c) (sigR (F := F)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dv : Thread nD τ) barS 1) k) Q) := by
  subst hd
  have hne : c ≠ sg c s := fun h => sg_ne c s hs h.symm
  unfold debt
  iintro ⟨#Hrec, ⟨%W, HO⟩, Hst⟩ Hk
  ihave H := (st_take (sigP (F := F) c) (sigR (F := F)) s) $$ Hst
  icases H with ⟨HP, HR⟩
  unfold sigP
  icases HP with ⟨Ht, Hp⟩
  ihave #HI := (rec_at m ρ K (sg c s, .inl ())) $$ Hrec
  icases HI with ⟨#HI, #Hr⟩
  iapply (Rounds.wp_signal 𝒱₀ ER (moeRd m ρ) (c : Thread nD τ) none (dst := (sg c s : Thread nD τ)) (κ := K (sg c s, .inl ()))
      (d := c) (by rw [duties_bar]; exact Finset.mem_filter.mpr ⟨Finset.mem_univ _, hne⟩) (amount_bar m ρ (sg c s) c) ()
      (O₀ := Orecv c 0 + Obar c s.val) (Orecv c 0 + Obar c (s.val + 1)) (by rw [Obar_step c s, add_assoc])) $$ [HO Ht Hp]
  · isplitr; · iexact HI
    isplitl [HO]; · iexact HO
    isplitl [Ht]; · iexact Ht
    isplitl [Hp]; · rw [payload_bar]; iexact Hp
    iexact Hr
  iintro HO
  iapply Hk
  isplitl [HO]; · iexists W; iexact HO
  iapply HR; unfold sigR; iempintro

/-! ## Sends -/

/-- What the printed condition, offsets and device of send `n` are. -/
abbrev SendAt (n : Fin 16) (cond : Prop) (o1 o2 : Fin 1 → ℕ) (o3 : Fin 3 → ℕ) (o4 : Fin 2 → ℕ) (dv : ℕ) : Prop :=
  (cond ↔ dst c n ≠ c) ∧ o1 = ![(dst c n).val] ∧ o2 = ![c.val] ∧ o3 = ![c.val, 0, 0] ∧ o4 = ![32 * (dst c n).val, 0] ∧ dv = (dst c n).val

/-- Before send `n`: the tokens of the two duties it pays and the slot it lands in — nothing for the device's own rows. -/
def sendP (n : Fin 16) : sProp 𝕄 :=
  if dst c n = c then iprop(emp) else
    iprop(dutyTok ER (sendCell c (dst c n)) 0 (dst c n) ∗ dutyTok ER (recvCell (dst c n) c) 0 c ∗ ∃ f, commPts (dst c n) c f)
/-- After it: the credit of the send's end — for the device's own rows, the rows. -/
def sendR (n : Fin 16) : sProp 𝕄 :=
  if dst c n = c then accPts c c (accC m ρ c) else cred (tallyAt (sendCell c (dst c n)) () N)

omit [FloatOps F] in
/-- For the device's own rows a send needs nothing. -/
theorem sendP_self {n : Fin 16} (h : dst c n = c) : (sendP c n : sProp 𝕄) = iprop(emp) := if_pos h
omit [FloatOps F] in
/-- For another device's rows it needs the two duties' tokens and the slot. -/
theorem sendP_other {n : Fin 16} (h : dst c n ≠ c) : (sendP c n : sProp 𝕄)
    = iprop(dutyTok ER (sendCell c (dst c n)) 0 (dst c n) ∗ dutyTok ER (recvCell (dst c n) c) 0 c ∗ ∃ f, commPts (dst c n) c f) := if_neg h
/-- The device's own rows stay. -/
theorem sendR_self {n : Fin 16} (h : dst c n = c) : sendR m ρ c n = accPts c c (accC m ρ c) := if_pos h
/-- A send leaves the credit of its end. -/
theorem sendR_other {n : Fin 16} (h : dst c n ≠ c) : sendR m ρ c n = cred (tallyAt (sendCell c (dst c n)) () N) := if_neg h

/-- The slot, once the rows are written into it, holds the stated contents. -/
theorem landed_comm (d : Dev nD) (h : d ≠ c) (f : Buf (Elt F) ((commV c).view.loc (d : Thread nD τ))) :
    (((commV c).view.loc (d : Thread nD τ) ↦[(commV c).view.set]{fullShare} (commV c).view.write (Elt F) f ((accV d).view.read (Elt F) (accC m ρ c)) Finset.univ) : sProp 𝕄)
      = commPts d c (commC m ρ d) := by
  unfold commPts
  exact pointsTo_congr (written (commV c).view f (commC m ρ d) _ (comm_read m ρ d c))

/-- One send, skipped where the rows are the device's own. -/
theorem step_send (n : Fin 16) {cond : Prop} [Decidable cond] {o1 o2 : Fin 1 → ℕ} {o3 : Fin 3 → ℕ} {o4 : Fin 2 → ℕ} {dv : ℕ}
    (hS : SendAt c n cond o1 o2 o3 o4 dv)
    {i1 : cond → ∀ a, o1 a + S1.size a ≤ S16.size a} {i2 : cond → ∀ a, o2 a + S1.size a ≤ S16.size a}
    {i3 : cond → ∀ a, o3 a + S1x32x512.size a ≤ S16x32x512.size a} {i4 : cond → ∀ a, o4 a + S32x512.size a ≤ S512x512.size a}
    {iv : cond → dv < nD}
    {hsc : ∀ h : cond, ((commM.slice (Rect.unit o3 S1x32x512.size (i3 h)) (fun _ => rfl)).squeeze S32x512 squeezes_S1x32x512_S32x512 :
        Memref sig (Dev.tc (⟨dv, iv h⟩ : Dev nD) : Thread nD τ).2.kind .vmem S32x512 .bf16).view.ref.isScScratch = false}
    {hsrc : ∀ h : cond, (accM.slice (Rect.unit o4 S32x512.size (i4 h)) (fun _ => rfl)).view.WordExact}
    {hdst : ∀ h : cond, ((commM.slice (Rect.unit o3 S1x32x512.size (i3 h)) (fun _ => rfl)).squeeze S32x512 squeezes_S1x32x512_S32x512).view.WordExact}
    {hsem : ∀ h : cond, DmaTarget.Typed .vmem (.dma ((cc0_scratch5.slice (Rect.unit o2 S1.size (i2 h))).squeeze S_ squeezes_S1_S_).sem)
      (.remote (Dev.tc (⟨dv, iv h⟩ : Dev nD) : Thread nD τ)
        ((commM.slice (Rect.unit o3 S1x32x512.size (i3 h)) (fun _ => rfl)).squeeze S32x512 squeezes_S1x32x512_S32x512)
        (.dma ((cc0_scratch4.slice (Rect.unit o1 S1.size (i1 h))).squeeze S_ squeezes_S1_S_).sem) (hsc h))}
    {α : Type} {Q : α → sProp 𝕄} {k : PUnit → Prog (TpuEff nD τ sig (Elt F) Λ₀ .tc) α} :
    iprop(records m ρ K ∗ debt c (Orecv c n.val) ∗ accPts c (dst c n) (accC m ρ c) ∗ st n.val (sendP c) (sendR m ρ c))
      ⊢ iprop(((debt c (Orecv c (n.val + 1)) ∗ st (n.val + 1) (sendP c) (sendR m ρ c))
            -∗ wp frame (wpE (defs₀ (F := F)) 𝒱₀ (c : Thread nD τ) none) Set.univ (k ⟨⟩) Q)
          -∗ wp frame (wpE (defs₀ (F := F)) 𝒱₀ (c : Thread nD τ) none) Set.univ
              (if h : cond then .op (.enqueueDma (accM.slice (Rect.unit o4 S32x512.size (i4 h)) (fun _ => rfl))
                (.remote (Dev.tc (⟨dv, iv h⟩ : Dev nD) : Thread nD τ)
                  ((commM.slice (Rect.unit o3 S1x32x512.size (i3 h)) (fun _ => rfl)).squeeze S32x512 squeezes_S1x32x512_S32x512)
                  (.dma ((cc0_scratch4.slice (Rect.unit o1 S1.size (i1 h))).squeeze S_ squeezes_S1_S_).sem) (hsc h))
                (.dma ((cc0_scratch5.slice (Rect.unit o2 S1.size (i2 h))).squeeze S_ squeezes_S1_S_).sem) (hsrc h) (hdst h) (hsem h)) k
              else k ⟨⟩) Q) := by
  obtain ⟨hc, rfl, rfl, rfl, rfl, rfl⟩ := hS
  unfold debt
  iintro ⟨#Hrec, ⟨%W, HO⟩, Hacc, Hst⟩ Hk
  ihave H := (st_take (sendP (F := F) c) (sendR m ρ c) n) $$ Hst
  icases H with ⟨HP, HR⟩
  by_cases hself : dst c n = c
  · rw [dif_neg (fun h => hc.mp h hself)]
    iapply Hk
    rw [Orecv_step c n, if_pos hself, add_zero]
    isplitl [HO]; · iexists W; iexact HO
    iapply HR
    rw [sendR_self m ρ c hself, hself]
    iexact Hacc
  · rw [dif_pos (hc.mpr hself)]
    ihave HP := (Entails.of_eq (sendP_other c hself)) $$ HP
    icases HP with ⟨Ht1, Ht2, ⟨%f, Hc⟩⟩
    ihave #HI := (rec_at m ρ K (c, .inr (.inl (dst c n)))) $$ Hrec
    icases HI with ⟨#HI1, #Hr1⟩
    ihave #HI := (rec_at m ρ K (dst c n, .inr (.inr c))) $$ Hrec
    icases HI with ⟨#HI2, #Hr2⟩
    unfold accPts commPts
    iapply (Rounds.wp_send_pointsTo 𝒱₀ ER (moeRd m ρ) (c : Thread nD τ) none (κ₁ := K (c, .inr (.inl (dst c n)))) (κ₂ := K (dst c n, .inr (.inr c)))
      (r₁ := 0) (r₂ := 0) (d₁ := dst c n) (d₂ := c) (fd := f)
      (by rw [duties_send m ρ c hself]; exact Finset.mem_singleton_self _)
      (by rw [duties_recv m ρ (dst c n) (t := c) (fun h => hself h.symm)]; exact Finset.mem_singleton_self _)
      () () N rfl (amount_send m ρ c (dst c n) (dst c n)) (amount_recv m ρ (dst c n) c c) (Orecv c (n.val + 1))
      ((Orecv_step c n).trans (congrArg _ (if_neg hself))) (W := W)
      (by rw [payload_send]; unfold accPts; exact BI.Entails.refl _)
      (by rw [payload_recv]; exact Entails.of_eq (landed_comm m ρ c (dst c n) hself f)))
      $$ [Hacc Hc HO Ht1 Ht2]
    · isplitr; · iexact HI1
      isplitr; · iexact HI2
      isplitl [Hacc]; · iexact Hacc
      isplitl [Hc]; · iexact Hc
      isplitl [HO]; · iexact HO
      isplitl [Ht1]; · iexact Ht1
      isplitr; · iexact Hr1
      isplitl [Ht2]; · iexact Ht2
      iexact Hr2
    iintro ⟨HcS, HO⟩
    iapply Hk
    isplitl [HO]; · iexists W; iexact HO
    iapply HR
    rw [sendR_other m ρ c hself]
    iexact HcS

/-! ## Arrivals -/

/-- Before the wait of step `s`: the position at the cell, unpaid, and its credit. -/
def recvP (s : Fin 16) : sProp 𝕄 := iprop(atPos ER (recvCell c (rv c s)) 0 ∅ 0 ∗ cred (tallyAt (recvCell c (rv c s)) () N))
/-- After it: the cell's round is over and the slot holds what was sent; step 0 is the device's own slot, not waited for. -/
def recvR (s : Fin 16) : sProp 𝕄 :=
  iprop(atPos ER (recvCell c (rv c s)) (if s.val = 0 then 0 else 1) ∅ 0 ∗ commPts c (rv c s) (commC m ρ c))

/-- One wait for an arrival: the slot comes back, filled. -/
theorem step_recv (s : Fin 16) (hs : 1 ≤ s.val) {o : Fin 1 → ℕ} (ho : o = ![(rv c s).val])
    {i : ∀ a, o a + S1.size a ≤ S16.size a} {src dst' : Memref sig .tc .vmem S32x512 .bf16}
    {hsrc : src.view.WordExact} {hdst : dst'.view.WordExact}
    {α : Type} {Q : α → sProp 𝕄} {k : PUnit → Prog (TpuEff nD τ sig (Elt F) Λ₀ .tc) α} :
    iprop(records m ρ K ∗ debt c 0 ∗ st s.val (recvP (F := F) c) (recvR m ρ c))
      ⊢ iprop(((debt c 0 ∗ st (s.val + 1) (recvP (F := F) c) (recvR m ρ c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 ((cc0_scratch5.slice (Rect.unit o S1.size i)).squeeze S_ squeezes_S1_S_).sem src dst' hsrc hdst) k) Q) := by
  subst ho
  have hne : rv c s ≠ c := rv_ne c s hs
  unfold debt
  iintro ⟨#Hrec, ⟨%W, HO⟩, Hst⟩ Hk
  ihave H := (st_take (recvP (F := F) c) (recvR m ρ c) s) $$ Hst
  icases H with ⟨HP, HR⟩
  unfold recvP
  icases HP with ⟨Hat, Hcr⟩
  ihave #HI := (rec_at m ρ K (c, .inr (.inr (rv c s)))) $$ Hrec
  icases HI with ⟨#HI, -⟩
  iapply (Rounds.wp_wait_rest_token 𝒱₀ ER (moeRd m ρ) (c : Thread nD τ) none (κ := K (c, .inr (.inr (rv c s))))
      (wpE_waitDma2_eq 𝒱₀ (c : Thread nD τ) none Set.univ) (Set.mem_univ _) () (O := 0) (W := W) (R := 0) (m := 0) (T := ∅)
      (by rw [Nat.zero_add]; exact (expect_recv m ρ c hne).symm)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hpay := (Entails.of_eq (rest_recv m ρ c hne)) $$ Hpay
  iapply Hk
  isplitl [HO]; · iexists _; iexact HO
  iapply HR
  unfold recvR; rw [if_neg (by omega)]
  isplitl [Hat]; · iexact Hat
  iexact Hpay

/-! ## The sends' ends -/

/-- What the printed condition and offset of the wait for the end of send `t` are. -/
abbrev DrainAt (t : Fin 16) (cond : Prop) : Prop := cond ↔ (⟨t.val, t.isLt⟩ : Dev nD) ≠ c

/-- Device `t`. -/
abbrev dv16 (t : Fin 16) : Dev nD := ⟨t.val, t.isLt⟩

/-- Before the wait for the end of send `t`: the place at its cell and its credit; nothing for the device itself. -/
def drainP (t : Fin 16) : sProp 𝕄 :=
  if dv16 t = c then iprop(emp) else iprop(atPos ER (sendCell c (dv16 t)) 0 ∅ 0 ∗ cred (tallyAt (sendCell c (dv16 t)) () N))
/-- After it: the rows are back. -/
def drainR (t : Fin 16) : sProp 𝕄 :=
  if dv16 t = c then iprop(emp) else iprop(atPos ER (sendCell c (dv16 t)) 1 ∅ 0 ∗ accPts c (dv16 t) (accC m ρ c))

omit [FloatOps F] in
/-- For the device itself there is nothing to wait for. -/
theorem drainP_self {t : Fin 16} (h : dv16 t = c) : (drainP c t : sProp 𝕄) = iprop(emp) := if_pos h
omit [FloatOps F] in
/-- For another device it needs the place and the credit. -/
theorem drainP_other {t : Fin 16} (h : dv16 t ≠ c) : (drainP c t : sProp 𝕄)
    = iprop(atPos ER (sendCell c (dv16 t)) 0 ∅ 0 ∗ cred (tallyAt (sendCell c (dv16 t)) () N)) := if_neg h
/-- For the device itself nothing comes back. -/
theorem drainR_self {t : Fin 16} (h : dv16 t = c) : drainR m ρ c t = iprop(emp) := if_pos h
/-- For another device the rows come back. -/
theorem drainR_other {t : Fin 16} (h : dv16 t ≠ c) : drainR m ρ c t
    = iprop(atPos ER (sendCell c (dv16 t)) 1 ∅ 0 ∗ accPts c (dv16 t) (accC m ρ c)) := if_neg h

/-- One wait for a send's end, skipped for the device itself. -/
theorem step_drain (t : Fin 16) {cond : Prop} [Decidable cond] (hD : DrainAt c t cond) {o : Fin 1 → ℕ} (ho : o = ![t.val])
    {i : cond → ∀ a, o a + S1.size a ≤ S16.size a} {src dst' : cond → Memref sig .tc .vmem S32x512 .bf16}
    {hsrc : ∀ h, (src h).view.WordExact} {hdst : ∀ h, (dst' h).view.WordExact}
    {α : Type} {Q : α → sProp 𝕄} {k : PUnit → Prog (TpuEff nD τ sig (Elt F) Λ₀ .tc) α} :
    iprop(records m ρ K ∗ debt c 0 ∗ st t.val (drainP (F := F) c) (drainR m ρ c))
      ⊢ iprop(((debt c 0 ∗ st (t.val + 1) (drainP (F := F) c) (drainR m ρ c))
            -∗ wp frame (wpE (defs₀ (F := F)) 𝒱₀ (c : Thread nD τ) none) Set.univ (k ⟨⟩) Q)
          -∗ wp frame (wpE (defs₀ (F := F)) 𝒱₀ (c : Thread nD τ) none) Set.univ
              (if h : cond then .op (.waitDma2 ((cc0_scratch4.slice (Rect.unit o S1.size (i h))).squeeze S_ squeezes_S1_S_).sem (src h) (dst' h) (hsrc h) (hdst h)) k
              else k ⟨⟩) Q) := by
  subst ho
  unfold debt
  iintro ⟨#Hrec, ⟨%W, HO⟩, Hst⟩ Hk
  ihave H := (st_take (drainP (F := F) c) (drainR m ρ c) t) $$ Hst
  icases H with ⟨HP, HR⟩
  by_cases hself : dv16 t = c
  · rw [dif_neg (fun h => hD.mp h hself)]
    iapply Hk
    isplitl [HO]; · iexists W; iexact HO
    iapply HR
    rw [drainR_self m ρ c hself]; iempintro
  · rw [dif_pos (hD.mpr hself)]
    ihave HP := (Entails.of_eq (drainP_other c hself)) $$ HP
    icases HP with ⟨Hat, Hcr⟩
    ihave #HI := (rec_at m ρ K (c, .inr (.inl (dv16 t)))) $$ Hrec
    icases HI with ⟨#HI, -⟩
    iapply (Rounds.wp_wait_rest_token 𝒱₀ ER (moeRd m ρ) (c : Thread nD τ) none (κ := K (c, .inr (.inl (dv16 t))))
        (wpE_waitDma2_eq 𝒱₀ (c : Thread nD τ) none Set.univ) (Set.mem_univ _) () (O := 0) (W := W) (R := 0) (m := 0) (T := ∅)
        (by rw [Nat.zero_add]; exact (expect_send m ρ c hself).symm)) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    ihave Hpay := (Entails.of_eq (rest_send m ρ c hself)) $$ Hpay
    iapply Hk
    isplitl [HO]; · iexists _; iexact HO
    iapply HR
    rw [drainR_other m ρ c hself]
    isplitl [Hat]; · iexact Hat
    iexact Hpay

/-! ## The barrier wait -/

/-- The barrier wait: every other device has handed over its slot for `c`. -/
theorem step_bar {α : Type} {Q : α → sProp 𝕄} {k : PUnit → Prog (TpuEff nD τ sig (Elt F) Λ₀ .tc) α} :
    iprop(records m ρ K ∗ levAts L lv ∗ debt c (Orecv c 0) ∗ atPos ER (barCell c) 0 ∅ 0 ∗ cred (tallyAt (barCell c) () 15))
      ⊢ iprop(((debt c (Orecv c 0) ∗ atPos ER (barCell c) 1 ∅ 0 ∗ bigSep (Finset.univ.filter (· ≠ c)) (fun d => iprop(∃ f, commPts d c f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  unfold debt
  iintro ⟨#Hrec, #Hlev, ⟨%W, HO⟩, Hat, Hcr⟩ Hk
  ihave #HI := (rec_at m ρ K (c, .inl ())) $$ Hrec
  icases HI with ⟨#HI, -⟩
  iapply (Rounds.wp_wait_rest_token 𝒱₀ ER (moeRd m ρ) (c : Thread nD τ) none (κ := K (c, .inl ()))
      (wpE_semWait_eq 𝒱₀ (c : Thread nD τ) none Set.univ) (Set.mem_univ _) () (O := Orecv c 0) (W := W) (R := 0) (m := 0) (T := ∅)
      (by rw [Nat.zero_add]; exact (expect_bar m ρ c).symm)) $$ [Hcr HO Hat]
  · isplitr; · iexact HI
    isplitl [Hcr]; · iexact Hcr
    isplitl [HO]; · iexact HO
    isplitr; · iapply (mayWait_bar c 0); iexact Hlev
    iexact Hat
  iintro ⟨HO, Hat, -, Hpay⟩
  ihave Hpay := (Entails.of_eq (rest_bar m ρ c)) $$ Hpay
  iapply Hk
  isplitl [HO]; · iexists _; iexact HO
  isplitl [Hat]; · iexact Hat
  iexact Hpay

end Steps

end Cert.KernelIdeal.Moe

end

end
-- ==== Proof.Facts.lean ====
/-
# What the kernel prints for its devices, conditions and offsets

At a symbolic device: the device of each signal and send, the conditions that skip the device's own rows, and the
offsets of the blocks, in the terms of the protocol.
-/
module

public import proofs.«01_k».proof.Proof.Steps
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

/-- The device of signal 1. -/
theorem sig1 (c : Dev nD) : (⟨k0_dev1 c, k0_dev1_lt c⟩ : Dev nD) = sg c 1 := by revert c; decide +kernel
/-- The device of signal 2. -/
theorem sig2 (c : Dev nD) : (⟨k0_dev2 c, k0_dev2_lt c⟩ : Dev nD) = sg c 2 := by revert c; decide +kernel
/-- The device of signal 3. -/
theorem sig3 (c : Dev nD) : (⟨k0_dev3 c, k0_dev3_lt c⟩ : Dev nD) = sg c 3 := by revert c; decide +kernel
/-- The device of signal 4. -/
theorem sig4 (c : Dev nD) : (⟨k0_dev4 c, k0_dev4_lt c⟩ : Dev nD) = sg c 4 := by revert c; decide +kernel
/-- The device of signal 5. -/
theorem sig5 (c : Dev nD) : (⟨k0_dev5 c, k0_dev5_lt c⟩ : Dev nD) = sg c 5 := by revert c; decide +kernel
/-- The device of signal 6. -/
theorem sig6 (c : Dev nD) : (⟨k0_dev6 c, k0_dev6_lt c⟩ : Dev nD) = sg c 6 := by revert c; decide +kernel
/-- The device of signal 7. -/
theorem sig7 (c : Dev nD) : (⟨k0_dev7 c, k0_dev7_lt c⟩ : Dev nD) = sg c 7 := by revert c; decide +kernel
/-- The device of signal 8. -/
theorem sig8 (c : Dev nD) : (⟨k0_dev8 c, k0_dev8_lt c⟩ : Dev nD) = sg c 8 := by revert c; decide +kernel
/-- The device of signal 9. -/
theorem sig9 (c : Dev nD) : (⟨k0_dev9 c, k0_dev9_lt c⟩ : Dev nD) = sg c 9 := by revert c; decide +kernel
/-- The device of signal 10. -/
theorem sig10 (c : Dev nD) : (⟨k0_dev10 c, k0_dev10_lt c⟩ : Dev nD) = sg c 10 := by revert c; decide +kernel
/-- The device of signal 11. -/
theorem sig11 (c : Dev nD) : (⟨k0_dev11 c, k0_dev11_lt c⟩ : Dev nD) = sg c 11 := by revert c; decide +kernel
/-- The device of signal 12. -/
theorem sig12 (c : Dev nD) : (⟨k0_dev12 c, k0_dev12_lt c⟩ : Dev nD) = sg c 12 := by revert c; decide +kernel
/-- The device of signal 13. -/
theorem sig13 (c : Dev nD) : (⟨k0_dev13 c, k0_dev13_lt c⟩ : Dev nD) = sg c 13 := by revert c; decide +kernel
/-- The device of signal 14. -/
theorem sig14 (c : Dev nD) : (⟨k0_dev14 c, k0_dev14_lt c⟩ : Dev nD) = sg c 14 := by revert c; decide +kernel
/-- The device of signal 15. -/
theorem sig15 (c : Dev nD) : (⟨k0_dev15 c, k0_dev15_lt c⟩ : Dev nD) = sg c 15 := by revert c; decide +kernel

/-- The condition, offsets and device of send 0. -/
theorem snd0 (c : Dev nD) : SendAt c 0 (k0_cond1 c = 1#1) (k0_off2 c) (k0_off3 c) (k0_off4 c) (k0_off5 c) (k0_dev16 c) := by revert c; decide +kernel
/-- The condition, offsets and device of send 1. -/
theorem snd1 (c : Dev nD) : SendAt c 1 (k0_cond2 c = 1#1) (k0_off6 c) (k0_off7 c) (k0_off8 c) (k0_off9 c) (k0_dev17 c) := by revert c; decide +kernel
/-- The condition, offsets and device of send 2. -/
theorem snd2 (c : Dev nD) : SendAt c 2 (k0_cond3 c = 1#1) (k0_off10 c) (k0_off11 c) (k0_off12 c) (k0_off13 c) (k0_dev18 c) := by revert c; decide +kernel
/-- The condition, offsets and device of send 3. -/
theorem snd3 (c : Dev nD) : SendAt c 3 (k0_cond4 c = 1#1) (k0_off14 c) (k0_off15 c) (k0_off16 c) (k0_off17 c) (k0_dev19 c) := by revert c; decide +kernel
/-- The condition, offsets and device of send 4. -/
theorem snd4 (c : Dev nD) : SendAt c 4 (k0_cond5 c = 1#1) (k0_off18 c) (k0_off19 c) (k0_off20 c) (k0_off21 c) (k0_dev20 c) := by revert c; decide +kernel
/-- The condition, offsets and device of send 5. -/
theorem snd5 (c : Dev nD) : SendAt c 5 (k0_cond6 c = 1#1) (k0_off22 c) (k0_off23 c) (k0_off24 c) (k0_off25 c) (k0_dev21 c) := by revert c; decide +kernel
/-- The condition, offsets and device of send 6. -/
theorem snd6 (c : Dev nD) : SendAt c 6 (k0_cond7 c = 1#1) (k0_off26 c) (k0_off27 c) (k0_off28 c) (k0_off29 c) (k0_dev22 c) := by revert c; decide +kernel
/-- The condition, offsets and device of send 7. -/
theorem snd7 (c : Dev nD) : SendAt c 7 (k0_cond8 c = 1#1) (k0_off30 c) (k0_off31 c) (k0_off32 c) (k0_off33 c) (k0_dev23 c) := by revert c; decide +kernel
/-- The condition, offsets and device of send 8. -/
theorem snd8 (c : Dev nD) : SendAt c 8 (k0_cond9 c = 1#1) (k0_off34 c) (k0_off35 c) (k0_off36 c) (k0_off37 c) (k0_dev24 c) := by revert c; decide +kernel
/-- The condition, offsets and device of send 9. -/
theorem snd9 (c : Dev nD) : SendAt c 9 (k0_cond10 c = 1#1) (k0_off38 c) (k0_off39 c) (k0_off40 c) (k0_off41 c) (k0_dev25 c) := by revert c; decide +kernel
/-- The condition, offsets and device of send 10. -/
theorem snd10 (c : Dev nD) : SendAt c 10 (k0_cond11 c = 1#1) (k0_off42 c) (k0_off43 c) (k0_off44 c) (k0_off45 c) (k0_dev26 c) := by revert c; decide +kernel
/-- The condition, offsets and device of send 11. -/
theorem snd11 (c : Dev nD) : SendAt c 11 (k0_cond12 c = 1#1) (k0_off46 c) (k0_off47 c) (k0_off48 c) (k0_off49 c) (k0_dev27 c) := by revert c; decide +kernel
/-- The condition, offsets and device of send 12. -/
theorem snd12 (c : Dev nD) : SendAt c 12 (k0_cond13 c = 1#1) (k0_off50 c) (k0_off51 c) (k0_off52 c) (k0_off53 c) (k0_dev28 c) := by revert c; decide +kernel
/-- The condition, offsets and device of send 13. -/
theorem snd13 (c : Dev nD) : SendAt c 13 (k0_cond14 c = 1#1) (k0_off54 c) (k0_off55 c) (k0_off56 c) (k0_off57 c) (k0_dev29 c) := by revert c; decide +kernel
/-- The condition, offsets and device of send 14. -/
theorem snd14 (c : Dev nD) : SendAt c 14 (k0_cond15 c = 1#1) (k0_off58 c) (k0_off59 c) (k0_off60 c) (k0_off61 c) (k0_dev30 c) := by revert c; decide +kernel
/-- The condition, offsets and device of send 15. -/
theorem snd15 (c : Dev nD) : SendAt c 15 (k0_cond16 c = 1#1) (k0_off62 c) (k0_off63 c) (k0_off64 c) (k0_off65 c) (k0_dev31 c) := by revert c; decide +kernel

/-- The condition of the wait for the end of send 0. -/
theorem drn0 (c : Dev nD) : DrainAt c 0 (k0_cond17 c = 1#1) := by revert c; decide +kernel
/-- The condition of the wait for the end of send 1. -/
theorem drn1 (c : Dev nD) : DrainAt c 1 (k0_cond18 c = 1#1) := by revert c; decide +kernel
/-- The condition of the wait for the end of send 2. -/
theorem drn2 (c : Dev nD) : DrainAt c 2 (k0_cond19 c = 1#1) := by revert c; decide +kernel
/-- The condition of the wait for the end of send 3. -/
theorem drn3 (c : Dev nD) : DrainAt c 3 (k0_cond20 c = 1#1) := by revert c; decide +kernel
/-- The condition of the wait for the end of send 4. -/
theorem drn4 (c : Dev nD) : DrainAt c 4 (k0_cond21 c = 1#1) := by revert c; decide +kernel
/-- The condition of the wait for the end of send 5. -/
theorem drn5 (c : Dev nD) : DrainAt c 5 (k0_cond22 c = 1#1) := by revert c; decide +kernel
/-- The condition of the wait for the end of send 6. -/
theorem drn6 (c : Dev nD) : DrainAt c 6 (k0_cond23 c = 1#1) := by revert c; decide +kernel
/-- The condition of the wait for the end of send 7. -/
theorem drn7 (c : Dev nD) : DrainAt c 7 (k0_cond24 c = 1#1) := by revert c; decide +kernel
/-- The condition of the wait for the end of send 8. -/
theorem drn8 (c : Dev nD) : DrainAt c 8 (k0_cond25 c = 1#1) := by revert c; decide +kernel
/-- The condition of the wait for the end of send 9. -/
theorem drn9 (c : Dev nD) : DrainAt c 9 (k0_cond26 c = 1#1) := by revert c; decide +kernel
/-- The condition of the wait for the end of send 10. -/
theorem drn10 (c : Dev nD) : DrainAt c 10 (k0_cond27 c = 1#1) := by revert c; decide +kernel
/-- The condition of the wait for the end of send 11. -/
theorem drn11 (c : Dev nD) : DrainAt c 11 (k0_cond28 c = 1#1) := by revert c; decide +kernel
/-- The condition of the wait for the end of send 12. -/
theorem drn12 (c : Dev nD) : DrainAt c 12 (k0_cond29 c = 1#1) := by revert c; decide +kernel
/-- The condition of the wait for the end of send 13. -/
theorem drn13 (c : Dev nD) : DrainAt c 13 (k0_cond30 c = 1#1) := by revert c; decide +kernel
/-- The condition of the wait for the end of send 14. -/
theorem drn14 (c : Dev nD) : DrainAt c 14 (k0_cond31 c = 1#1) := by revert c; decide +kernel
/-- The condition of the wait for the end of send 15. -/
theorem drn15 (c : Dev nD) : DrainAt c 15 (k0_cond32 c = 1#1) := by revert c; decide +kernel

/-- The offset of the wait for arrival `s`. -/
theorem rcv (c : Dev nD) (s : Fin 16) (hs : 1 ≤ s.val) : k0_off69 c (BitVec.ofNat 32 s.val) = ![(rv c s).val] := by
  revert c s; decide +kernel

end Cert.KernelIdeal.Moe

end

end
-- ==== Proof.Blocks.lean ====
/-
# The steps, ready to be chained, and the body's loads and stores

The communication steps over one assertion each, and the memory operations on whole buffers and on blocks.
-/
module

public import proofs.«01_k».proof.Proof.Facts
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ValueLayout

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 shapeCast_ab_1ab_apply)

variable {F : FTy → Type} [FloatOps F]
local notation "𝕄" => MT nD τ sig Unit (Elt F) ℕ UU ℕ
variable (m : (ℓ : Loc nD τ sig) → Buf (Elt F) ℓ) (ρ : Dev nD → PrngReg)

/-- The four blocks' payloads are one function. -/
theorem pay8_eq : k0_pay8 (F := F) = k0_pay7 := rfl
/-- The same of the third block. -/
theorem pay9_eq : k0_pay9 (F := F) = k0_pay7 := rfl
/-- The same of the fourth block. -/
theorem pay10_eq : k0_pay10 (F := F) = k0_pay7 := rfl

attribute [local irreducible] k0_pay1 k0_pay2 k0_pay4 k0_pay5 k0_pay6 k0_pay7 k0_pay11 k0_pay13

/-- Device `c`'s buffer `b` holds `f`. -/
def pt (c : Dev nD) (b : Ref sig .tc) (f : b.ty.Contents (Elt F)) : sProp 𝕄 := ((c : Thread nD τ).loc b) ↦{fullShare} f

/-- The rows of device `c`'s partial result that send `n` takes. -/
def accD (c : Dev nD) (n : ℕ) (hn : n < 16) : sProp 𝕄 := accPts c (dst c ⟨n, hn⟩) (accC m ρ c)

/-- What holding a buffer stands for. -/
theorem pt_def (c : Dev nD) (b : Ref sig .tc) (f : b.ty.Contents (Elt F)) : (pt c b f : sProp 𝕄) = (((c : Thread nD τ).loc b) ↦{fullShare} f) := rfl

section Chain

variable (K : Dev nD × CK → ℕ) (c : Dev nD)

/-- Before signal `n`: what is still owed, and the sixteen signals' state. -/
def sigAt (n : ℕ) : sProp 𝕄 := iprop(debt c (Orecv c 0 + Obar c n) ∗ st n (sigP (F := F) c) (sigR (F := F)))
/-- Before send `n`: what is still owed, and the sixteen sends' state. -/
def sendAt (n : ℕ) : sProp 𝕄 := iprop(debt c (Orecv c n) ∗ st n (sendP c) (sendR m ρ c))
/-- Before the wait for arrival `n`: nothing is owed; the sixteen arrivals' state. -/
def recvAt (n : ℕ) : sProp 𝕄 := iprop(debt c 0 ∗ st n (recvP (F := F) c) (recvR m ρ c))
/-- Before the wait for the end of send `n`: nothing is owed; the sixteen ends' state. -/
def drainAt (n : ℕ) : sProp 𝕄 := iprop(debt c 0 ∗ st n (drainP (F := F) c) (drainR m ρ c))

/-- Signal `n`, followed by the rest of the program. -/
theorem do_signal {α : Type} {Q : α → sProp 𝕄} {k : PUnit → Prog (TpuEff nD τ sig (Elt F) Λ₀ .tc) α}
    (n : ℕ) (hn : 1 ≤ n ∧ n < 16) {dv : Dev nD} (hd : dv = sg c ⟨n, hn.2⟩) :
    records m ρ K ⊢ iprop(sigAt (F := F) c n -∗ (sigAt (F := F) c (n + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dv : Thread nD τ) barS 1) k) Q) := by
  unfold sigAt
  iintro #Hrec
  iintro ⟨HO, Hst⟩
  iintro Hk
  iapply (step_signal m ρ K c ⟨n, hn.2⟩ hn.1 hd) $$ [HO Hst]
  · isplitr; · iexact Hrec
    isplitl [HO]; · iexact HO
    iexact Hst
  iexact Hk

/-- Send `n`, or its omission where the rows are the device's own, followed by the rest of the program. -/
theorem do_send {α : Type} {Q : α → sProp 𝕄} {k : PUnit → Prog (TpuEff nD τ sig (Elt F) Λ₀ .tc) α}
    (n : ℕ) (hn : n < 16) {cond : Prop} [Decidable cond] {o1 o2 : Fin 1 → ℕ} {o3 : Fin 3 → ℕ} {o4 : Fin 2 → ℕ} {dv : ℕ}
    (hS : SendAt c ⟨n, hn⟩ cond o1 o2 o3 o4 dv)
    {i1 : cond → ∀ a, o1 a + S1.size a ≤ S16.size a} {i2 : cond → ∀ a, o2 a + S1.size a ≤ S16.size a}
    {i3 : cond → ∀ a, o3 a + S1x32x512.size a ≤ S16x32x512.size a} {i4 : cond → ∀ a, o4 a + S32x512.size a ≤ S512x512.size a}
    {iv : cond → dv < nD}
    {hsc : ∀ h : cond, ((commM.slice (Rect.unit o3 S1x32x512.size (i3 h)) (fun _ => rfl)).squeeze S32x512 squeezes_S1x32x512_S32x512 :
        Memref sig (Dev.tc (⟨dv, iv h⟩ : Dev nD) : Thread nD τ).2.kind .vmem S32x512 .bf16).view.ref.isScScratch = false}
    {hsrc : ∀ h : cond, (accM.slice (Rect.unit o4 S32x512.size (i4 h)) (fun _ => rfl)).view.WordExact}
    {hdst : ∀ h : cond, ((commM.slice (Rect.unit o3 S1x32x512.size (i3 h)) (fun _ => rfl)).squeeze S32x512 squeezes_S1x32x512_S32x512).view.WordExact}
    {hsem : ∀ h : cond, DmaTarget.Typed .vmem (.dma ((cc0_scratch5.slice (Rect.unit o2 S1.size (i2 h))).squeeze S_ squeezes_S1_S_).sem)
      (.remote (Dev.tc (⟨dv, iv h⟩ : Dev nD) : Thread nD τ)
        ((commM.slice (Rect.unit o3 S1x32x512.size (i3 h)) (fun _ => rfl)).squeeze S32x512 squeezes_S1x32x512_S32x512)
        (.dma ((cc0_scratch4.slice (Rect.unit o1 S1.size (i1 h))).squeeze S_ squeezes_S1_S_).sem) (hsc h))} :
    records m ρ K ⊢ iprop(sendAt m ρ c n -∗ accD m ρ c n hn -∗ (sendAt m ρ c (n + 1)
            -∗ wp frame (wpE (defs₀ (F := F)) 𝒱₀ (c : Thread nD τ) none) Set.univ (k ⟨⟩) Q)
          -∗ wp frame (wpE (defs₀ (F := F)) 𝒱₀ (c : Thread nD τ) none) Set.univ
              (if h : cond then .op (.enqueueDma (accM.slice (Rect.unit o4 S32x512.size (i4 h)) (fun _ => rfl))
                (.remote (Dev.tc (⟨dv, iv h⟩ : Dev nD) : Thread nD τ)
                  ((commM.slice (Rect.unit o3 S1x32x512.size (i3 h)) (fun _ => rfl)).squeeze S32x512 squeezes_S1x32x512_S32x512)
                  (.dma ((cc0_scratch4.slice (Rect.unit o1 S1.size (i1 h))).squeeze S_ squeezes_S1_S_).sem) (hsc h))
                (.dma ((cc0_scratch5.slice (Rect.unit o2 S1.size (i2 h))).squeeze S_ squeezes_S1_S_).sem) (hsrc h) (hdst h) (hsem h)) k
              else k ⟨⟩) Q) := by
  unfold sendAt accD
  iintro #Hrec ⟨HO, Hst⟩ Hacc Hk
  iapply (step_send m ρ K c ⟨n, hn⟩ hS) $$ [HO Hst Hacc]
  · isplitr; · iexact Hrec
    isplitl [HO]; · iexact HO
    isplitl [Hacc]; · iexact Hacc
    iexact Hst
  iexact Hk

/-- The wait for arrival `n`, followed by the rest of the program. -/
theorem do_recv {α : Type} {Q : α → sProp 𝕄} {k : PUnit → Prog (TpuEff nD τ sig (Elt F) Λ₀ .tc) α}
    (n : ℕ) (hn : 1 ≤ n ∧ n < 16) {o : Fin 1 → ℕ} (ho : o = ![(rv c ⟨n, hn.2⟩).val])
    {i : ∀ a, o a + S1.size a ≤ S16.size a} {src dst' : Memref sig .tc .vmem S32x512 .bf16}
    {hsrc : src.view.WordExact} {hdst : dst'.view.WordExact} :
    records m ρ K ⊢ iprop(recvAt m ρ c n -∗ (recvAt m ρ c (n + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 ((cc0_scratch5.slice (Rect.unit o S1.size i)).squeeze S_ squeezes_S1_S_).sem src dst' hsrc hdst) k) Q) := by
  unfold recvAt
  iintro #Hrec ⟨HO, Hst⟩ Hk
  iapply (step_recv m ρ K c ⟨n, hn.2⟩ hn.1 ho) $$ [HO Hst]
  · isplitr; · iexact Hrec
    isplitl [HO]; · iexact HO
    iexact Hst
  iexact Hk

/-- The wait for the end of send `n`, or its omission, followed by the rest of the program. -/
theorem do_drain {α : Type} {Q : α → sProp 𝕄} {k : PUnit → Prog (TpuEff nD τ sig (Elt F) Λ₀ .tc) α}
    (n : ℕ) (hn : n < 16) {cond : Prop} [Decidable cond] (hD : DrainAt c ⟨n, hn⟩ cond) {o : Fin 1 → ℕ} (ho : o = ![n])
    {i : cond → ∀ a, o a + S1.size a ≤ S16.size a} {src dst' : cond → Memref sig .tc .vmem S32x512 .bf16}
    {hsrc : ∀ h, (src h).view.WordExact} {hdst : ∀ h, (dst' h).view.WordExact} :
    records m ρ K ⊢ iprop(drainAt m ρ c n -∗ (drainAt m ρ c (n + 1)
            -∗ wp frame (wpE (defs₀ (F := F)) 𝒱₀ (c : Thread nD τ) none) Set.univ (k ⟨⟩) Q)
          -∗ wp frame (wpE (defs₀ (F := F)) 𝒱₀ (c : Thread nD τ) none) Set.univ
              (if h : cond then .op (.waitDma2 ((cc0_scratch4.slice (Rect.unit o S1.size (i h))).squeeze S_ squeezes_S1_S_).sem (src h) (dst' h) (hsrc h) (hdst h)) k
              else k ⟨⟩) Q) := by
  unfold drainAt
  iintro #Hrec ⟨HO, Hst⟩ Hk
  iapply (step_drain m ρ K c ⟨n, hn⟩ hD ho) $$ [HO Hst]
  · isplitr; · iexact Hrec
    isplitl [HO]; · iexact HO
    iexact Hst
  iexact Hk

end Chain

section Memory

variable (c : Dev nD)

/-- A load of a block's rows, the experts' matrices and (unused) the rows to be written, and the store of the rows' product:
    the block of the partial result holds its stated contents. -/
theorem do_block {α : Type} {Q : α → sProp 𝕄} {k : PUnit → Prog (TpuEff nD τ sig (Elt F) Λ₀ .tc) α}
    (j : Fin 4) {o : Fin 2 → ℕ} (ho : o = ![128 * (blk c j).val, 0]) {i : ∀ a, o a + S128x512.size a ≤ S512x512.size a}
    {i0 : ∀ a, (![0, 0] : Fin 2 → ℕ) a + S512x512.size a ≤ S512x512.size a}
    {pay : Vec F S128x512 .bf16 → Vec F S512x512 .bf16 → FVec F S128x512 .bf16} (hp : pay = k0_pay7)
    {l1 : xgM.view.LoadsAt (Rect.unit (s := S512x512) o S128x512.size i).toLoadRect}
    {l2 : wM.view.LoadsAt (Rect.unit (s := S512x512) ![0, 0] S512x512.size i0).toLoadRect}
    {l3 : accM.view.LoadsAt (Rect.unit (s := S512x512) o S128x512.size i).toLoadRect}
    {hx : (accM.access (Rect.unit (s := S512x512) o S128x512.size i)).Stores Finset.univ}
    {hm : (Finset.univ : Finset (Rect.unit (s := S512x512) o S128x512.size i).shape.Idx) = Finset.univ ∨ ∀ a, (Rect.unit (s := S512x512) o S128x512.size i).stride a = 1}
    {f : Buf (Elt F) ((c : Thread nD τ).loc cc0_scratch0)} :
    rowPts c (blk c j) f ⊢ iprop(pt c cc0_scratch2 (xgC m ρ c) -∗ pt c cc0_scratch3 (wC m ρ c)
        -∗ (rowPts c (blk c j) (accC m ρ c) -∗ pt c cc0_scratch2 (xgC m ρ c) -∗ pt c cc0_scratch3 (wC m ρ c)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load xgM (Rect.unit (s := S512x512) o S128x512.size i).toLoadRect l1) fun v =>
            .op (.load wM (Rect.unit (s := S512x512) ![0, 0] S512x512.size i0).toLoadRect l2) fun w =>
            .op (.load accM (Rect.unit (s := S512x512) o S128x512.size i).toLoadRect l3) fun _ =>
            .op (.store accM (Rect.unit (s := S512x512) o S128x512.size i) (pay v w) Finset.univ hx hm) k) Q) := by
  subst ho hp
  unfold rowPts pt
  iintro Hr Hx Hw Hk
  iapply (wp_load_rect 𝒱₀ (c : Thread nD τ) none Set.univ (m := xgM) (r := rowR (blk c j)) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := accM) (r := rowR (blk c j)) (fun _ h => h)) $$ Hr; iintro Hr
  iapply (wp_store 𝒱₀ (c : Thread nD τ) none Set.univ (m := accM) (r := rowR (blk c j)) (Mk := Finset.univ) (S := (accM.access (rowR (blk c j))).set) (fun _ h => h)) $$ Hr; iintro Hr
  iapply Hk $$ [Hr] Hx Hw
  iapply (Entails.of_eq (pointsTo_congr (written (accM.access (rowR (blk c j))) f (accC m ρ c) _ (by
    rw [acc_read, xg_read]
    exact congrArg _ (Memref.readAt_unit_zero (Elt F) cc0_scratch3 (funext fun a => by fin_cases a <;> rfl) _ _).symm)))) $$ Hr

/-! ### Whole buffers -/

/-- The staged tokens. -/
abbrev xM : Memref sig .tc .vmem S512x256 .bf16 := Memref.whole cc0_stg0_0
/-- The staged router matrix. -/
abbrev rwM : Memref sig .tc .vmem S256x32 .bf16 := Memref.whole cc0_stg1_0
/-- The staged routes. -/
abbrev idxM : Memref sig .tc .vmem S512x1 .i32 := Memref.whole cc0_stg2_0
/-- The staged expert matrices. -/
abbrev ewM : Memref sig .tc .vmem S2x256x512 .bf16 := Memref.whole cc0_stg3_0
/-- The staged shared matrix. -/
abbrev swM : Memref sig .tc .vmem S256x512 .bf16 := Memref.whole cc0_stg4_0
/-- The staged result. -/
abbrev outM : Memref sig .tc .vmem S32x512 .f32 := Memref.whole cc0_stg5_0

omit [FloatOps F] in
/-- The zero offset of two axes. -/
theorem z2 : (![0, 0] : Fin 2 → ℕ) = fun _ => 0 := funext fun a => by fin_cases a <;> rfl
omit [FloatOps F] in
/-- The zero offset of three axes. -/
theorem z3 : (![0, 0, 0] : Fin 3 → ℕ) = fun _ => 0 := funext fun a => by fin_cases a <;> rfl

omit [FloatOps F] in
/-- Loading the whole of the tokens gives their contents. -/
theorem rd_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 z2 _ f
omit [FloatOps F] in
/-- Loading the whole router matrix gives its contents. -/
theorem rd_rw (f : (cc0_stg1_0 : Ref sig .tc).ty.Contents (Elt F)) :
    rwM.view.readAt (Elt F) (Rect.unit (s := S256x32) ![0, 0] S256x32.size inb_S256x32_S256x32_0_0).toLoadRect f = f :=
  Memref.readAt_unit_zero (Elt F) cc0_stg1_0 z2 _ f
omit [FloatOps F] in
/-- Loading the whole of the routes gives their contents. -/
theorem rd_idx (f : (cc0_stg2_0 : Ref sig .tc).ty.Contents (Elt F)) :
    idxM.view.readAt (Elt F) (Rect.unit (s := S512x1) ![0, 0] S512x1.size inb_S512x1_S512x1_0_0).toLoadRect f = f :=
  Memref.readAt_unit_zero (Elt F) cc0_stg2_0 z2 _ f
omit [FloatOps F] in
/-- Loading the whole of the expert matrices gives their contents. -/
theorem rd_ew (f : (cc0_stg3_0 : Ref sig .tc).ty.Contents (Elt F)) :
    ewM.view.readAt (Elt F) (Rect.unit (s := S2x256x512) ![0, 0, 0] S2x256x512.size inb_S2x256x512_S2x256x512_0_0_0).toLoadRect f = f :=
  Memref.readAt_unit_zero (Elt F) cc0_stg3_0 z3 _ f
omit [FloatOps F] in
/-- Loading the whole shared matrix gives its contents. -/
theorem rd_sw (f : (cc0_stg4_0 : Ref sig .tc).ty.Contents (Elt F)) :
    swM.view.readAt (Elt F) (Rect.unit (s := S256x512) ![0, 0] S256x512.size inb_S256x512_S256x512_0_0).toLoadRect f = f :=
  Memref.readAt_unit_zero (Elt F) cc0_stg4_0 z2 _ f
omit [FloatOps F] in
/-- Loading the whole landing array gives its contents. -/
theorem rd_comm (f : (cc0_scratch1 : Ref sig .tc).ty.Contents (Elt F)) :
    commM.view.readAt (Elt F) (Rect.unit (s := S16x32x512) ![0, 0, 0] S16x32x512.size inb_S16x32x512_S16x32x512_0_0_0).toLoadRect f = f :=
  Memref.readAt_unit_zero (Elt F) cc0_scratch1 z3 _ f
omit [FloatOps F] in
/-- Storing the whole stacked experts leaves what was stored. -/
theorem wr_w (f w : (cc0_scratch3 : Ref sig .tc).ty.Contents (Elt F)) :
    ((wM.access (Rect.unit (s := S512x512) ![0, 0] S512x512.size inb_S512x512_S512x512_0_0)) : View sig .tc _ _ _).write (Elt F) f w Finset.univ = w :=
  Memref.write_access_unit_zero_univ (Elt F) cc0_scratch3 z2 _ f w
omit [FloatOps F] in
/-- Storing the whole result leaves what was stored. -/
theorem wr_out (f w : (cc0_stg5_0 : Ref sig .tc).ty.Contents (Elt F)) :
    ((outM.access (Rect.unit (s := S32x512) ![0, 0] S32x512.size inb_S32x512_S32x512_0_0)) : View sig .tc _ _ _).write (Elt F) f w Finset.univ = w :=
  Memref.write_access_unit_zero_univ (Elt F) cc0_stg5_0 z2 _ f w

/-! ### The two halves of the scaled tokens -/

/-- The columns of the device's first expert. -/
abbrev lo : Rect S512x512 := Rect.unit (s := S512x512) ![0, 0] S512x256.size inb_S512x512_S512x256_0_0
/-- The columns of the device's second expert. -/
abbrev hi : Rect S512x512 := Rect.unit (s := S512x512) ![0, 256] S512x256.size inb_S512x512_S512x256_0_256

/-- The first half of the scaled tokens is the first expert's payload. -/
theorem xg_lo : (xgM.access lo).read (Elt F) (xgC m ρ c)
    = k0_pay4 (myW c) (k0_pay1 (xstg m ρ c)) (k0_pay2 (xstg m ρ c) (rwstg m ρ c)) (idxstg m ρ c) := by
  funext j
  obtain ⟨a, b, rfl⟩ : ∃ (a : Fin 512) (b : Fin 256), j = ix2 a b := ⟨j 0, j 1, ValueIdx.eq_ix2 j⟩
  have e : lo.emb (ix2 a b) = (ix2 a (⟨b.val, by omega⟩ : Fin 512) : S512x512.Idx) := by
    funext d
    match d with
    | ⟨0, _⟩ => exact Fin.ext (by show 0 + 1 * a.val = a.val; omega)
    | ⟨1, _⟩ => exact Fin.ext (by show 0 + 1 * b.val = b.val; omega)
  show xgC m ρ c (lo.emb (ix2 a b)) = _
  rw [e]
  exact dif_pos b.isLt

/-- The second half of the scaled tokens is the second expert's payload. -/
theorem xg_hi : (xgM.access hi).read (Elt F) (xgC m ρ c)
    = k0_pay5 (myW c) (k0_pay1 (xstg m ρ c)) (k0_pay2 (xstg m ρ c) (rwstg m ρ c)) (idxstg m ρ c) := by
  funext j
  obtain ⟨a, b, rfl⟩ : ∃ (a : Fin 512) (b : Fin 256), j = ix2 a b := ⟨j 0, j 1, ValueIdx.eq_ix2 j⟩
  have e : hi.emb (ix2 a b) = (ix2 a (⟨256 + b.val, by omega⟩ : Fin 512) : S512x512.Idx) := by
    funext d
    match d with
    | ⟨0, _⟩ => exact Fin.ext (by show 0 + 1 * a.val = a.val; omega)
    | ⟨1, _⟩ => exact Fin.ext (by show 256 + 1 * b.val = 256 + b.val; omega)
  show xgC m ρ c (hi.emb (ix2 a b)) = _
  rw [e]
  refine (dif_neg (by show ¬ 256 + b.val < 256; omega)).trans ?_
  congr 2
  exact Fin.ext (by show 256 + b.val - 256 = b.val; omega)

/-- After both halves are written the buffer holds the scaled tokens. -/
theorem xg_written (f : (cc0_scratch2 : Ref sig .tc).ty.Contents (Elt F)) :
    ((xgM.access hi).write (Elt F) ((xgM.access lo).write (Elt F) f
        (k0_pay4 (myW c) (k0_pay1 (xstg m ρ c)) (k0_pay2 (xstg m ρ c) (rwstg m ρ c)) (idxstg m ρ c)) Finset.univ)
      (k0_pay5 (myW c) (k0_pay1 (xstg m ρ c)) (k0_pay2 (xstg m ρ c) (rwstg m ρ c)) (idxstg m ρ c)) Finset.univ) = xgC m ρ c := by
  rw [← xg_lo m ρ c, ← xg_hi m ρ c, View.write_read_eq_piecewise, View.write_read_eq_piecewise]
  funext (i : S512x512.Idx)
  by_cases h2 : i ∈ (xgM.access hi).setOn Finset.univ
  · exact Finset.piecewise_eq_of_mem _ _ _ h2
  · refine (Finset.piecewise_eq_of_notMem _ _ _ h2).trans ?_
    refine Finset.piecewise_eq_of_mem _ _ _ ?_
    have e1 : (xgM.access lo).set = lo.set := View.set_slice_whole _ _
    have e2 : (xgM.access hi).set = hi.set := View.set_slice_whole _ _
    show i ∈ (xgM.access lo).set
    rw [e1, Rect.mem_set_unit]
    have h2' : i ∉ hi.set := fun h => h2 (by show i ∈ (xgM.access hi).set; rw [e2]; exact h)
    rw [Rect.mem_set_unit] at h2'
    have h0 : (i 0).val < 512 := (i 0).isLt
    have h1 : (i 1).val < 512 := (i 1).isLt
    have hlt : (i 1).val < 256 := by
      by_contra hge
      refine h2' fun a => ?_
      match a with
      | ⟨0, _⟩ => show 0 ≤ (i 0).val ∧ (i 0).val < 0 + 512; omega
      | ⟨1, _⟩ => show 256 ≤ (i 1).val ∧ (i 1).val < 256 + 256; omega
    intro a
    match a with
    | ⟨0, _⟩ => show 0 ≤ (i 0).val ∧ (i 0).val < 0 + 512; omega
    | ⟨1, _⟩ => show 0 ≤ (i 1).val ∧ (i 1).val < 0 + 256; omega

/-! ### The device's own rows -/

/-- The device's own rows of its partial result. -/
def accRows : Vec F S32x512 .bf16 := (accV c).view.read (Elt F) (accC m ρ c)

/-- The load of the device's own tokens. -/
theorem do_xrows {α : Type} {Q : α → sProp 𝕄} {o : Fin 2 → ℕ} (ho : o = ![32 * c.val, 0]) {i : ∀ a, o a + S32x256.size a ≤ S512x256.size a}
    {l : xM.view.LoadsAt (Rect.unit (s := S512x256) o S32x256.size i).toLoadRect}
    {k : Vec F S32x256 .bf16 → Prog (TpuEff nD τ sig (Elt F) Λ₀ .tc) α} :
    pt c cc0_stg0_0 (xstg m ρ c) ⊢ iprop((pt c cc0_stg0_0 (xstg m ρ c)
          -∗ wp frame (wpE (defs₀ (F := F)) 𝒱₀ (c : Thread nD τ) none) Set.univ (k (xRows m ρ c)) Q)
        -∗ wp frame (wpE (defs₀ (F := F)) 𝒱₀ (c : Thread nD τ) none) Set.univ
          (.op (.load xM (Rect.unit (s := S512x256) o S32x256.size i).toLoadRect l) k) Q) := by
  subst ho
  unfold pt
  have e : (xM.access (Rect.unit (s := S512x256) ![32 * c.val, 0] S32x256.size i)).read (Elt F) (xstg m ρ c) = xRows m ρ c := by
    funext j
    show xstg m ρ c ((Rect.unit (s := S512x256) ![32 * c.val, 0] S32x256.size i).emb j) = xstg m ρ c _
    congr 1
    funext d
    match d with
    | ⟨0, _⟩ => exact Fin.ext (by show 32 * c.val + 1 * (j 0).val = 32 * c.val + (j 0).val; omega)
    | ⟨1, _⟩ => exact Fin.ext (by show 0 + 1 * (j 1).val = (j 1).val; omega)
  iintro Hx Hk
  iapply (wp_load_rect 𝒱₀ (c : Thread nD τ) none Set.univ (m := xM) (r := Rect.unit (s := S512x256) ![32 * c.val, 0] S32x256.size i) (Finset.subset_univ _)) $$ Hx
  rw [e]
  iexact Hk

/-- The load of the device's own rows of its partial result. -/
theorem do_accrows {α : Type} {Q : α → sProp 𝕄} {o : Fin 2 → ℕ} (ho : o = ![32 * c.val, 0]) {i : ∀ a, o a + S32x512.size a ≤ S512x512.size a}
    {l : accM.view.LoadsAt (Rect.unit (s := S512x512) o S32x512.size i).toLoadRect}
    {k : Vec F S32x512 .bf16 → Prog (TpuEff nD τ sig (Elt F) Λ₀ .tc) α} :
    accPts c c (accC m ρ c) ⊢ iprop((accPts c c (accC m ρ c)
          -∗ wp frame (wpE (defs₀ (F := F)) 𝒱₀ (c : Thread nD τ) none) Set.univ (k (accRows m ρ c)) Q)
        -∗ wp frame (wpE (defs₀ (F := F)) 𝒱₀ (c : Thread nD τ) none) Set.univ
          (.op (.load accM (Rect.unit (s := S512x512) o S32x512.size i).toLoadRect l) k) Q) := by
  subst ho
  unfold accPts
  exact wp_load_rect 𝒱₀ (c : Thread nD τ) none Set.univ (m := accM) (r := Rect.unit (s := S512x512) ![32 * c.val, 0] S32x512.size i) (fun _ h => h)

/-- The rectangle of slot `c` is the slot as the protocol names it. -/
theorem slot_set (i : ∀ a, (![c.val, 0, 0] : Fin 3 → ℕ) a + S1x32x512.size a ≤ S16x32x512.size a) :
    (commM.access (Rect.unit (s := S16x32x512) ![c.val, 0, 0] S1x32x512.size i)).set = (commV c).view.set :=
  (View.set_slice_whole _ _).trans (comm_set c).symm

/-- The (unused) load of the device's own slot. -/
theorem do_slot_load {α : Type} {Q : α → sProp 𝕄} {o : Fin 3 → ℕ} (ho : o = ![c.val, 0, 0]) {i : ∀ a, o a + S1x32x512.size a ≤ S16x32x512.size a}
    {l : commM.view.LoadsAt (Rect.unit (s := S16x32x512) o S1x32x512.size i).toLoadRect}
    {k : Vec F S1x32x512 .bf16 → Prog (TpuEff nD τ sig (Elt F) Λ₀ .tc) α} {f : Buf (Elt F) ((c : Thread nD τ).loc cc0_scratch1)} :
    commPts c c f ⊢ iprop((∀ w, commPts c c f
          -∗ wp frame (wpE (defs₀ (F := F)) 𝒱₀ (c : Thread nD τ) none) Set.univ (k w) Q)
        -∗ wp frame (wpE (defs₀ (F := F)) 𝒱₀ (c : Thread nD τ) none) Set.univ
          (.op (.load commM (Rect.unit (s := S16x32x512) o S1x32x512.size i).toLoadRect l) k) Q) := by
  subst ho
  unfold commPts
  iintro Hc Hk
  iapply (wp_load_rect 𝒱₀ (c : Thread nD τ) none Set.univ (m := commM) (r := Rect.unit (s := S16x32x512) ![c.val, 0, 0] S1x32x512.size i)
    (S := (commV c).view.set) (fun _ h => by rw [slot_set] at h; exact h)) $$ Hc
  iintro Hc
  iapply Hk $$ Hc

/-- The store of the device's own rows into its own slot. -/
theorem do_slot_store {α : Type} {Q : α → sProp 𝕄} {o : Fin 3 → ℕ} (ho : o = ![c.val, 0, 0]) {i : ∀ a, o a + S1x32x512.size a ≤ S16x32x512.size a}
    {hx : (commM.access (Rect.unit (s := S16x32x512) o S1x32x512.size i)).Stores Finset.univ}
    {hm : (Finset.univ : Finset (Rect.unit (s := S16x32x512) o S1x32x512.size i).shape.Idx) = Finset.univ ∨ ∀ a, (Rect.unit (s := S16x32x512) o S1x32x512.size i).stride a = 1}
    {k : PUnit → Prog (TpuEff nD τ sig (Elt F) Λ₀ .tc) α} {f : Buf (Elt F) ((c : Thread nD τ).loc cc0_scratch1)} :
    commPts c c f ⊢ iprop((commPts c c (commC m ρ c)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.store commM (Rect.unit (s := S16x32x512) o S1x32x512.size i) (k0_pay12 (accRows m ρ c)) Finset.univ hx hm) k) Q) := by
  subst ho
  have hr : (commM.access (Rect.unit (s := S16x32x512) ![c.val, 0, 0] S1x32x512.size i)).read (Elt F) (commC m ρ c) = k0_pay12 (accRows m ρ c) := by
    funext j
    obtain ⟨u, a, b, rfl⟩ : ∃ (u : Fin 1) (a : Fin 32) (b : Fin 512), j = ix3 u a b := ⟨j 0, j 1, j 2, ValueIdx.eq_ix3 j⟩
    have e : (Rect.unit (s := S16x32x512) ![c.val, 0, 0] S1x32x512.size i).emb (ix3 u a b) = (ix3 (⟨c.val, c.isLt⟩ : Fin 16) a b : S16x32x512.Idx) := by
      funext d
      match d with
      | ⟨0, _⟩ => exact Fin.ext (by show c.val + 1 * u.val = c.val; omega)
      | ⟨1, _⟩ => exact Fin.ext (by show 0 + 1 * a.val = a.val; omega)
      | ⟨2, _⟩ => exact Fin.ext (by show 0 + 1 * b.val = b.val; omega)
    have e2 : accRows m ρ c (ix2 a b) = accC m ρ c (ix2 (⟨32 * c.val + a.val, by have h : c.val < 16 := c.isLt; omega⟩ : Fin 512) b) := by
      unfold accRows; rw [View.read_apply, acc_emb]; rfl
    refine Eq.trans ?_ ((shapeCast_ab_1ab_apply (accRows m ρ c) shapeCasts_S32x512_S1x32x512 u a b).trans e2).symm
    show commC m ρ c ((Rect.unit (s := S16x32x512) ![c.val, 0, 0] S1x32x512.size i).emb (ix3 u a b)) = _
    rw [e]
    rfl
  have e : (((commM.access (Rect.unit (s := S16x32x512) ![c.val, 0, 0] S1x32x512.size i)).loc (c : Thread nD τ)
        ↦[(commV c).view.set]{fullShare} (commM.access (Rect.unit (s := S16x32x512) ![c.val, 0, 0] S1x32x512.size i)).write (Elt F) f
          (k0_pay12 (accRows m ρ c)) Finset.univ) : sProp 𝕄) = commPts c c (commC m ρ c) := by
    unfold commPts
    rw [← slot_set c i]
    exact pointsTo_congr (written (commM.access (Rect.unit (s := S16x32x512) ![c.val, 0, 0] S1x32x512.size i)) f (commC m ρ c) _ hr)
  rw [← e]
  unfold commPts
  exact wp_store 𝒱₀ (c : Thread nD τ) none Set.univ (m := commM) (r := Rect.unit (s := S16x32x512) ![c.val, 0, 0] S1x32x512.size i) (Mk := Finset.univ)
    (S := (commV c).view.set) (fun _ h => by rw [← slot_set c i]; exact h)

end Memory

end Cert.KernelIdeal.Moe

end

end
-- ==== Proof.Turns.lean ====
/-
# Between the phases

How the sixteen steps of one phase are made up from what a device starts with and what the phase before left: the slots
handed out and those received, the sends' rows and credits, the arrivals, and the closing of the cells.
-/
module

public import proofs.«01_k».proof.Proof.Blocks
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
local notation "𝕄" => MT nD τ sig Unit (Elt F) ℕ UU ℕ
variable (m : (ℓ : Loc nD τ sig) → Buf (Elt F) ℓ) (ρ : Dev nD → PrngReg)

section Others

variable (c : Dev nD)

/-- One assertion for every device other than `c`. -/
def off (Φ : Dev nD → sProp 𝕄) : sProp 𝕄 := bigSep (Finset.univ.erase c) Φ

omit [FloatOps F] in
/-- One assertion per device: that of `c` and those of the others. -/
theorem off_add (Φ : Dev nD → sProp 𝕄) : bigSep Finset.univ Φ = iprop(Φ c ∗ off c Φ) := bigSep_univ_at Φ c
omit [FloatOps F] in
/-- Of two assertions per other device, the pair splits. -/
theorem off_sep (Φ Ψ : Dev nD → sProp 𝕄) : off c (fun t => iprop(Φ t ∗ Ψ t)) = iprop(off c Φ ∗ off c Ψ) := bigSep_sep' _ Φ Ψ
omit [FloatOps F] in
/-- Equal assertions of the others make equal wholes. -/
theorem off_congr {Φ Ψ : Dev nD → sProp 𝕄} (h : ∀ t, t ≠ c → Φ t = Ψ t) : off c Φ = off c Ψ :=
  bigSep_congr fun t ht => h t (Finset.mem_erase.mp ht).1
omit [FloatOps F] in
/-- Entailments of the others make an entailment of the whole. -/
theorem off_mono {Φ Ψ : Dev nD → sProp 𝕄} (h : ∀ t, t ≠ c → Φ t ⊢ Ψ t) : off c Φ ⊢ off c Ψ :=
  bigSep_mono fun t ht => h t (Finset.mem_erase.mp ht).1
omit [FloatOps F] in
/-- The same devices, given as those different from `c`. -/
theorem off_filter (Φ : Dev nD → sProp 𝕄) : bigSep (Finset.univ.filter (· ≠ c)) Φ = off c Φ := by
  unfold off; rw [Finset.filter_ne']

omit [FloatOps F] in
/-- Sixteen steps that meet every device once: the step that meets `c` apart from the others. -/
theorem off_steps (e : Fin 16 ≃ Dev nD) (X : sProp 𝕄) (Φ : Dev nD → sProp 𝕄) :
    bigSep Finset.univ (fun n : Fin 16 => if e n = c then X else Φ (e n)) = iprop(X ∗ off c Φ) := by
  have h1 := bigSep_univ_equiv e (fun t : Dev nD => if t = c then X else Φ t)
  rw [← h1, off_add c, if_pos rfl]
  have h2 : off c (fun t => if t = c then X else Φ t) = off c Φ := off_congr c fun t ht => if_neg ht
  rw [h2]

omit [FloatOps F] in
/-- The same where the steps' assertions are given by cases. -/
theorem off_steps' (e : Fin 16 ≃ Dev nD) {X : sProp 𝕄} {Φ : Dev nD → sProp 𝕄} {G : Fin 16 → sProp 𝕄}
    (h : ∀ n, G n = if e n = c then X else Φ (e n)) : bigSep Finset.univ G = iprop(X ∗ off c Φ) :=
  (bigSep_congr fun n _ => h n).trans (off_steps c e X Φ)

omit [FloatOps F] in
/-- Nothing beside `X` is `X`. -/
theorem emp_off (X : sProp 𝕄) : iprop(emp ∗ X) = X := equiv_iff.mp emp_sep

omit [FloatOps F] in
/-- Steps 1 to 15 to go, where step 0 is the one that meets `c`. -/
theorem off_st (e : Fin 16 ≃ Dev nD) (he : ∀ n, e n = c ↔ n.val = 0) (Φ : Dev nD → sProp 𝕄) (R : Fin 16 → sProp 𝕄) :
    iprop(R 0 ∗ off c Φ) = st 1 (fun n => Φ (e n)) R := by
  rw [← off_steps c e (R 0) Φ]
  unfold st
  refine bigSep_congr fun n _ => ?_
  by_cases h : n.val = 0
  · obtain rfl : n = 0 := Fin.ext h
    rw [if_pos ((he 0).mpr rfl), if_neg (by decide)]
  · rw [if_neg (fun h' => h ((he n).mp h')), if_pos (by omega)]

/-- The device meets itself at signal 0 alone. -/
theorem sg_self (n : Fin 16) : sgE c n = c ↔ n.val = 0 := by
  show sg c n = c ↔ _
  revert c n; decide +kernel
/-- The device meets itself at arrival 0 alone. -/
theorem rv_self (n : Fin 16) : rvE c n = c ↔ n.val = 0 := by
  show rv c n = c ↔ _
  revert c n; decide +kernel

/-! ## The signals -/

/-- The launch debt, the tokens of the barrier duties and the landing array: the signals' start, and the device's own slot. -/
theorem signals_start (f : Buf (Elt F) ((c : Thread nD τ).loc cc0_scratch1)) :
    iprop(debt c (O₀ c) ∗ off c (fun d => dutyTok ER (barCell d) 0 c) ∗ pt c cc0_scratch1 f)
      ⊢ iprop(sigAt (F := F) c 1 ∗ commPts c c f) := by
  unfold sigAt pt O₀
  rw [comm_slots, off_add c]
  have e : iprop(sigR (F := F) 0 ∗ off c (fun d => iprop(dutyTok ER (barCell d) 0 c ∗ ∃ f, commPts c d f))) = st 1 (sigP (F := F) c) (sigR (F := F)) :=
    off_st c (sgE c) (sg_self c) (fun d => iprop(dutyTok ER (barCell d) 0 c ∗ ∃ f, commPts c d f)) (sigR (F := F))
  rw [← e, off_sep]
  iintro ⟨HO, Ht, Hc, Hs⟩
  isplitr [Hc]
  · isplitl [HO]; · iexact HO
    isplitr; · unfold sigR; iempintro
    isplitl [Ht]; · iexact Ht
    iapply (off_mono c (Φ := fun t => commPts c t f) (Ψ := fun t => iprop(∃ f, commPts c t f)) (fun t _ => by iintro H; iexists f; iexact H)) $$ Hs
  · iexact Hc

omit [FloatOps F] in
/-- After the signals only the sends are owed. -/
theorem signals_done : sigAt (F := F) c 16 ⊢ debt c (Orecv c 0) := by
  unfold sigAt
  rw [Obar_end, add_zero]
  iintro ⟨HO, -⟩; iexact HO

/-! ## The sends -/

/-- The tokens of the duties that `c`'s sends pay. -/
def sendToks : sProp 𝕄 := off c (fun d => iprop(dutyTok ER (sendCell c d) 0 d ∗ dutyTok ER (recvCell d c) 0 c))

/-- The tokens of the sends and the slots from the barrier are what the sends start from. -/
theorem sends_start :
    iprop(debt c (Orecv c 0) ∗ sendToks (F := F) c ∗ bigSep (Finset.univ.filter (· ≠ c)) (fun d => iprop(∃ f, commPts (F := F) d c f)))
      ⊢ sendAt m ρ c 0 := by
  unfold sendAt sendToks
  have e : bigSep Finset.univ (sendP (F := F) c)
      = iprop(emp ∗ off c (fun d => iprop(dutyTok ER (sendCell c d) 0 d ∗ dutyTok ER (recvCell d c) 0 c ∗ ∃ f, commPts (F := F) d c f))) :=
    off_steps' c (dstE c) fun n => rfl
  rw [st_start, e, off_filter, off_sep, off_sep, off_sep]
  iintro ⟨HO, ⟨Ha, Hb⟩, Hc⟩
  isplitl [HO]; · iexact HO
  isplitr; · iempintro
  isplitl [Ha]; · iexact Ha
  isplitl [Hb]; · iexact Hb
  iexact Hc

/-- After the sends nothing is owed; the device has its own rows and the credits of the sends' ends. -/
theorem sends_done : sendAt m ρ c 16 ⊢ iprop(debt c 0 ∗ accPts c c (accC m ρ c) ∗ off c (fun d => cred (tallyAt (sendCell c d) () N))) := by
  unfold sendAt
  have e : bigSep Finset.univ (sendR m ρ c) = iprop(accPts c c (accC m ρ c) ∗ off c (fun d => cred (tallyAt (sendCell c d) () N))) :=
    off_steps' c (dstE c) fun n => rfl
  rw [Orecv_end, st_end, e]

/-! ## The arrivals -/

/-- The device's place at its receive cells other than its own, with their credits; and its place at its own. -/
def recvIn : sProp 𝕄 :=
  iprop(atPos ER (recvCell c c) 0 ∅ 0 ∗ off c (fun t => iprop(atPos ER (recvCell c t) 0 ∅ 0 ∗ cred (tallyAt (recvCell c t) () N))))

/-- Arrival 0 is the device's own slot. -/
theorem recvR_zero : recvR m ρ c 0 = iprop(atPos ER (recvCell c c) 0 ∅ 0 ∗ commPts c c (commC m ρ c)) := by
  have h : rv c 0 = c := (rv_self c 0).mpr rfl
  unfold recvR; rw [h, if_pos (show (0 : Fin 16).val = 0 from rfl)]

/-- The places, the credits and the device's own slot are what the arrivals start from. -/
theorem recvs_start : iprop(debt c 0 ∗ recvIn (F := F) c ∗ commPts c c (commC m ρ c)) ⊢ recvAt m ρ c 1 := by
  unfold recvAt recvIn
  have e := off_st c (rvE c) (rv_self c) (fun t => iprop(atPos ER (recvCell c t) 0 ∅ 0 ∗ cred (tallyAt (recvCell c t) () N))) (recvR m ρ c)
  rw [recvR_zero] at e
  have e' : st 1 (recvP (F := F) c) (recvR m ρ c) = _ := e.symm
  rw [e']
  iintro ⟨HO, ⟨Ha, Hb⟩, Hc⟩
  isplitl [HO]; · iexact HO
  isplitr [Hb]
  · isplitl [Ha]; · iexact Ha
    iexact Hc
  · iexact Hb

/-- The round at which a device's place at its cell `t` ends: its own cells are never used. -/
abbrev rnd (t : Dev nD) : ℕ := if t = c then 0 else 1

/-- After the arrivals the device has its whole landing array, filled. -/
theorem recvs_done : recvAt m ρ c 16 ⊢ iprop(debt c 0 ∗ pt c cc0_scratch1 (commC m ρ c) ∗ bigSep Finset.univ (fun t => atPos ER (recvCell c t) (rnd c t) ∅ 0)) := by
  unfold recvAt pt
  have e : bigSep Finset.univ (recvR m ρ c) = iprop(bigSep Finset.univ (fun t => atPos ER (recvCell c t) (rnd c t) ∅ 0) ∗ bigSep Finset.univ (fun t => commPts c t (commC m ρ c))) := by
    rw [← bigSep_sep']
    refine Eq.trans ?_ (bigSep_univ_equiv (rvE c) _).symm
    refine bigSep_congr fun n _ => ?_
    have h : (if n.val = 0 then 0 else 1) = rnd c (rvE c n) := if_congr (rv_self c n).symm rfl rfl
    unfold recvR; rw [h]; rfl
  rw [st_end, e, comm_slots]
  iintro ⟨HO, Ha, Hc⟩
  isplitl [HO]; · iexact HO
  isplitl [Hc]; · iexact Hc
  iexact Ha

/-! ## The sends' ends -/

/-- The places and the credits are what the waits for the sends' ends start from. -/
theorem drains_start :
    iprop(debt c 0 ∗ off c (fun t => atPos ER (sendCell c t) 0 ∅ 0) ∗ off c (fun t => cred (tallyAt (sendCell c t) () N))) ⊢ drainAt m ρ c 0 := by
  unfold drainAt
  have e : bigSep Finset.univ (drainP (F := F) c) = iprop(emp ∗ off c (fun t => iprop(atPos ER (sendCell c t) 0 ∅ 0 ∗ cred (tallyAt (sendCell c t) () N)))) :=
    off_steps' c (Equiv.refl (Fin 16)) fun n => rfl
  rw [st_start, e, off_sep]
  iintro ⟨HO, Ha, Hc⟩
  isplitl [HO]; · iexact HO
  isplitr; · iempintro
  isplitl [Ha]; · iexact Ha
  iexact Hc

/-- After these waits the device has its whole partial result again. -/
theorem drains_done : iprop(drainAt m ρ c 16 ∗ atPos ER (sendCell c c) 0 ∅ 0 ∗ accPts c c (accC m ρ c))
    ⊢ iprop(debt c 0 ∗ pt c cc0_scratch0 (accC m ρ c) ∗ bigSep Finset.univ (fun t => atPos ER (sendCell c t) (rnd c t) ∅ 0)) := by
  unfold drainAt pt
  have e : bigSep Finset.univ (drainR m ρ c) = iprop(emp ∗ off c (fun t => iprop(atPos ER (sendCell c t) 1 ∅ 0 ∗ accPts c t (accC m ρ c)))) :=
    off_steps' c (Equiv.refl (Fin 16)) fun n => rfl
  have e2 : off (F := F) c (fun t => atPos ER (sendCell c t) (rnd c t) ∅ 0) = off c (fun t => atPos ER (sendCell c t) 1 ∅ 0) :=
    off_congr c fun t ht => by unfold rnd; rw [if_neg ht]
  rw [st_end, e, off_sep, acc_slots, off_add c, off_add c (fun t => atPos ER (sendCell c t) (rnd c t) ∅ 0), e2, show rnd c c = 0 from if_pos rfl]
  iintro ⟨⟨HO, -, Ha, Hb⟩, Hc, Hd⟩
  isplitl [HO]; · iexact HO
  isplitl [Hb Hd]
  · isplitl [Hd]; · iexact Hd
    iexact Hb
  isplitl [Hc]; · iexact Hc
  iexact Ha

/-! ## The cells at the end -/

/-- The last round of each of the device's cells. -/
abbrev lastRound : CK → ℕ := fun | .inl _ => 1 | .inr (.inl t) => rnd c t | .inr (.inr t) => rnd c t

/-- A cell past its last round is paid no more. -/
theorem no_more (k : CK) : ∀ r, lastRound c k ≤ r → (moeRd (F := F) m ρ).duties (kcell (c, k)) r = ∅ := by
  rcases k with _ | t | t
  · exact duties_later m ρ _
  · by_cases h : t = c
    · subst h; intro r _; exact duties_self_send m ρ t r (Nat.zero_le _)
    · intro r hr; exact duties_later m ρ _ r (by simpa [lastRound, rnd, h] using hr)
  · by_cases h : t = c
    · subst h; intro r _; exact duties_self_recv m ρ t r (Nat.zero_le _)
    · intro r hr; exact duties_later m ρ _ r (by simpa [lastRound, rnd, h] using hr)

/-- Every cell of the device past its last round: its counters are zero, and the device's own again. -/
theorem close_cells (K : Dev nD × CK → ℕ) :
    iprop(records m ρ K ∗ bigSep Finset.univ (fun k : CK => atPos ER (kcell (c, k)) (lastRound c k) ∅ 0))
      ⊢ iprop(|={Set.univ}=> bigSep Finset.univ (fun k : CK => semVal (kcell (c, k)) 0)) := by
  refine (bigSep_with_persistent (Ψ := fun k : CK => iprop(|={Set.univ}=> semVal (kcell (c, k)) 0)) fun k _ => ?_).trans (bigSep_fupd _ _)
  iintro ⟨#Hrec, Hat⟩
  ihave #HI := (rec_at m ρ K (c, k)) $$ Hrec
  icases HI with ⟨#HI, -⟩
  iapply (Rounds.cell_close ER (moeRd m ρ) (Set.mem_univ (K (c, k))) (fun h => h) (R := lastRound c k) (no_more m ρ c k)) $$ [Hat]
  isplitr; · iexact HI
  iexact Hat

/-- A block of 128 rows, once computed, is the rows of four sends. -/
theorem four_rows (j : Fin 4) (n : ℕ) (hn : n = 4 * j.val) (h0 : n < 16) (h1 : n + 1 < 16) (h2 : n + 2 < 16) (h3 : n + 3 < 16) :
    rowPts c (blk c j) (accC m ρ c) ⊢ iprop(accD m ρ c n h0 ∗ accD m ρ c (n + 1) h1 ∗ accD m ρ c (n + 2) h2 ∗ accD m ρ c (n + 3) h3) := by
  subst hn
  rw [row_quads, bigSep_eq_bigSepL_of_eq [0, 1, 2, 3] (by decide) (by decide)]
  exact BI.Entails.refl _

/-- The partial result's buffer, whatever it holds, is its four blocks of 128 rows. -/
theorem four_blocks (f : Buf (Elt F) ((c : Thread nD τ).loc cc0_scratch0)) :
    pt c cc0_scratch0 f ⊢ iprop(rowPts c (blk c 0) f ∗ rowPts c (blk c 1) f ∗ rowPts c (blk c 2) f ∗ rowPts c (blk c 3) f) := by
  unfold pt
  rw [acc_rows, bigSep_eq_bigSepL_of_eq [0, 1, 2, 3] (by decide) (by decide)]
  exact BI.Entails.refl _

end Others

end Cert.KernelIdeal.Moe

end

end
-- ==== Proof.Parts1.lean ====
/-
# The first half of the body, part by part

The signals, the scaled tokens, the four blocks of the partial result and the sends.
-/
module

public import proofs.«01_k».proof.Proof.Turns
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
local notation "𝕄" => MT nD τ sig Unit (Elt F) ℕ UU ℕ
variable (m : (ℓ : Loc nD τ sig) → Buf (Elt F) ℓ) (ρ : Dev nD → PrngReg) (K : Dev nD × CK → ℕ) (c : Dev nD)

attribute [local irreducible] k0_pay1 k0_pay2 k0_pay4 k0_pay5 k0_pay6 k0_pay7 k0_pay8 k0_pay9 k0_pay10 k0_pay11 k0_pay12 k0_pay13

attribute [local irreducible] k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31
  k0_cond1 k0_cond2 k0_cond3 k0_cond4 k0_cond5 k0_cond6 k0_cond7 k0_cond8 k0_cond9 k0_cond10 k0_cond11 k0_cond12 k0_cond13 k0_cond14 k0_cond15 k0_cond16

/-- The barrier, as the body names it. -/
abbrev bar3 : Sems sig S_ := SemArray.scalar (sig.barrier 0 rfl)

/-- The first five signals. -/
theorem part1 {Q : (Σ' (d0 : Dev nD) (v2 : BitVec 32) (v3 : Sems sig S_) (v24 : BitVec 32), BitVec 32) → sProp 𝕄} :
    records m ρ K ⊢ iprop(sigAt (F := F) c 1 -∗ (∀ v24 v, sigAt (F := F) c 6 -∗ Q ⟨c, myW c, bar3, v24, v⟩)
      -∗ wp frame (wpE (defs₀ (F := F)) 𝒱₀ (c : Thread nD τ) none) Set.univ (k0_part1 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5) Q) := by
  rw [k0_part1_eq_skeleton]; unfold k0_part1_skel
  simp (zetaHave := false) only [semSignalWord, semWaitWord, Prog.lift, Prog.bind_op, Prog.bind_ret, Prog.pure_eq_ret, wp_deviceId]
  rw [wp_deviceId]
  iintro #Hrec HS Hk
  iapply (do_signal m ρ K c 1 (by decide) (sig1 c)) $$ Hrec HS; iintro HS
  iapply (do_signal m ρ K c 2 (by decide) (sig2 c)) $$ Hrec HS; iintro HS
  iapply (do_signal m ρ K c 3 (by decide) (sig3 c)) $$ Hrec HS; iintro HS
  iapply (do_signal m ρ K c 4 (by decide) (sig4 c)) $$ Hrec HS; iintro HS
  iapply (do_signal m ρ K c 5 (by decide) (sig5 c)) $$ Hrec HS; iintro HS
  rw [wp_ret]; imodintro
  iapply Hk $$ HS

/-- Signals 6 to 11. -/
theorem part2 {v2 v24 v : BitVec 32} {Q : (Σ' (v48 : BitVec 32), BitVec 32) → sProp 𝕄} :
    records m ρ K ⊢ iprop(sigAt (F := F) c 6 -∗ (∀ v48 v, sigAt (F := F) c 12 -∗ Q ⟨v48, v⟩)
      -∗ wp frame (wpE (defs₀ (F := F)) 𝒱₀ (c : Thread nD τ) none) Set.univ (k0_part2 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 bar3 v24 v) Q) := by
  rw [k0_part2_eq_skeleton]; unfold k0_part2_skel
  simp (zetaHave := false) only [semSignalWord, semWaitWord, Prog.lift, Prog.bind_op, Prog.bind_ret, Prog.pure_eq_ret, wp_deviceId]
  iintro #Hrec HS Hk
  iapply (do_signal m ρ K c 6 (by decide) (sig6 c)) $$ Hrec HS; iintro HS
  iapply (do_signal m ρ K c 7 (by decide) (sig7 c)) $$ Hrec HS; iintro HS
  iapply (do_signal m ρ K c 8 (by decide) (sig8 c)) $$ Hrec HS; iintro HS
  iapply (do_signal m ρ K c 9 (by decide) (sig9 c)) $$ Hrec HS; iintro HS
  iapply (do_signal m ρ K c 10 (by decide) (sig10 c)) $$ Hrec HS; iintro HS
  iapply (do_signal m ρ K c 11 (by decide) (sig11 c)) $$ Hrec HS; iintro HS
  rw [wp_ret]; imodintro
  iapply Hk $$ HS

/-- Signals 12 to 15; the tokens and the router's matrix are loaded. -/
theorem part3 {v2 v48 v : BitVec 32} {Q : (Σ' (v65 : FVec F S512x256 .bf16), FVec F S512x32 .f32) → sProp 𝕄} :
    records m ρ K ⊢ iprop(sigAt (F := F) c 12 -∗ pt c cc0_stg0_0 (xstg m ρ c) -∗ pt c cc0_stg1_0 (rwstg m ρ c)
      -∗ (debt c (Orecv c 0) -∗ pt c cc0_stg0_0 (xstg m ρ c) -∗ pt c cc0_stg1_0 (rwstg m ρ c)
        -∗ Q ⟨k0_pay1 (xstg m ρ c), k0_pay2 (xstg m ρ c) (rwstg m ρ c)⟩)
      -∗ wp frame (wpE (defs₀ (F := F)) 𝒱₀ (c : Thread nD τ) none) Set.univ (k0_part3 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 bar3 v48 v) Q) := by
  rw [k0_part3_eq_skeleton]; unfold k0_part3_skel
  simp (zetaHave := false) only [semSignalWord, semWaitWord, Prog.lift, Prog.bind_op, Prog.bind_ret, Prog.pure_eq_ret, wp_deviceId]
  iintro #Hrec HS Hx Hw Hk
  iapply (do_signal m ρ K c 12 (by decide) (sig12 c)) $$ Hrec HS; iintro HS
  iapply (do_signal m ρ K c 13 (by decide) (sig13 c)) $$ Hrec HS; iintro HS
  iapply (do_signal m ρ K c 14 (by decide) (sig14 c)) $$ Hrec HS; iintro HS
  iapply (do_signal m ρ K c 15 (by decide) (sig15 c)) $$ Hrec HS; iintro HS
  ihave HO := (signals_done c) $$ HS
  unfold pt
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hw; iintro Hw
  rw [rd_x, rd_rw]
  rw [wp_ret]; imodintro
  iapply Hk $$ HO Hx Hw

/-- The routes are loaded; the scaled tokens are written, one half for each expert. -/
theorem part4 {f : (cc0_scratch2 : Ref sig .tc).ty.Contents (Elt F)} {Q : PUnit → sProp 𝕄} :
    pt c cc0_stg2_0 (idxstg m ρ c) ⊢ iprop(pt c cc0_scratch2 f
      -∗ (pt c cc0_stg2_0 (idxstg m ρ c) -∗ pt c cc0_scratch2 (xgC m ρ c) -∗ Q ⟨⟩)
      -∗ wp frame (wpE (defs₀ (F := F)) 𝒱₀ (c : Thread nD τ) none) Set.univ (k0_part4 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 (myW c) (k0_pay1 (xstg m ρ c)) (k0_pay2 (xstg m ρ c) (rwstg m ρ c))) Q) := by
  rw [k0_part4_eq_skeleton]; unfold k0_part4_skel
  simp (zetaHave := false) only [semSignalWord, semWaitWord, Prog.lift, Prog.bind_op, Prog.bind_ret, Prog.pure_eq_ret, wp_deviceId]
  iintro Hi Hg Hk
  unfold pt
  iapply (wp_load 𝒱₀ (c : Thread nD τ) none Set.univ (m := idxM) (Finset.subset_univ _)) $$ Hi; iintro Hi
  rw [rd_idx]
  iapply (wp_load 𝒱₀ (c : Thread nD τ) none Set.univ (m := xgM) (Finset.subset_univ _)) $$ Hg; iintro Hg
  iapply (wp_store 𝒱₀ (c : Thread nD τ) none Set.univ (m := xgM) (r := lo) (Mk := Finset.univ) (Finset.subset_univ _)) $$ Hg; iintro Hg
  iapply (wp_load 𝒱₀ (c : Thread nD τ) none Set.univ (m := xgM) (Finset.subset_univ _)) $$ Hg; iintro Hg
  iapply (wp_store 𝒱₀ (c : Thread nD τ) none Set.univ (m := xgM) (r := hi) (Mk := Finset.univ) (Finset.subset_univ _)) $$ Hg; iintro Hg
  rw [xg_written m ρ c]
  rw [wp_ret]; imodintro
  iapply Hk $$ Hi Hg

/-- The experts' matrices are stored one above the other, the first block of rows is computed, every other device has
    entered, and the first two sends go out. -/
theorem part5 {v2 : BitVec 32} {f9 : (cc0_scratch3 : Ref sig .tc).ty.Contents (Elt F)} {f : Buf (Elt F) ((c : Thread nD τ).loc cc0_scratch0)}
    {Q : (Σ' (v126 : BitVec 32) (v128 : BitVec 32), BitVec 32) → sProp 𝕄} :
    iprop(records m ρ K ∗ levAts L lv) ⊢ iprop(debt c (Orecv c 0) -∗ atPos ER (barCell c) 0 ∅ 0 -∗ cred (tallyAt (barCell c) () 15) -∗ sendToks (F := F) c
      -∗ pt c cc0_stg3_0 (ewstg m ρ c) -∗ pt c cc0_scratch3 f9 -∗ pt c cc0_scratch2 (xgC m ρ c) -∗ rowPts c (blk c 0) f
      -∗ (∀ v126 v128 v, sendAt m ρ c 2 -∗ accD m ρ c 2 (by decide) -∗ accD m ρ c 3 (by decide)
        -∗ atPos ER (barCell c) 1 ∅ 0 -∗ pt c cc0_stg3_0 (ewstg m ρ c) -∗ pt c cc0_scratch3 (wC m ρ c) -∗ pt c cc0_scratch2 (xgC m ρ c) -∗ Q ⟨v126, v128, v⟩)
      -∗ wp frame (wpE (defs₀ (F := F)) 𝒱₀ (c : Thread nD τ) none) Set.univ (k0_part5 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 bar3) Q) := by
  rw [k0_part5_eq_skeleton]; unfold k0_part5_skel
  simp (zetaHave := false) only [semSignalWord, semWaitWord, Prog.lift, Prog.bind_op, Prog.bind_ret, Prog.pure_eq_ret, wp_deviceId]
  iintro ⟨#Hrec, #Hlev⟩ HO HatB HcB Htok He Hw Hg Hr Hk
  ihave Hw' := (Entails.of_eq (pt_def c cc0_scratch3 f9)) $$ Hw
  ihave He' := (Entails.of_eq (pt_def c cc0_stg3_0 (ewstg m ρ c))) $$ He
  iapply (wp_load 𝒱₀ (c : Thread nD τ) none Set.univ (m := ewM) (Finset.subset_univ _)) $$ He'; iintro He
  ihave He := (Entails.of_eq (pt_def c cc0_stg3_0 (ewstg m ρ c)).symm) $$ He
  rw [rd_ew]
  iapply (wp_load 𝒱₀ (c : Thread nD τ) none Set.univ (m := wM) (Finset.subset_univ _)) $$ Hw'; iintro Hw
  iapply (wp_store 𝒱₀ (c : Thread nD τ) none Set.univ (m := wM) (r := Rect.unit (s := S512x512) ![0, 0] S512x512.size inb_S512x512_S512x512_0_0)
    (Mk := Finset.univ) (Finset.subset_univ _)) $$ Hw; iintro Hw
  rw [wr_w]
  ihave Hw := (Entails.of_eq (pt_def c cc0_scratch3 (k0_pay6 (ewstg m ρ c))).symm) $$ Hw
  ihave Hw := (Entails.of_eq (show (pt c cc0_scratch3 (k0_pay6 (ewstg m ρ c)) : sProp 𝕄) = pt c cc0_scratch3 (wC m ρ c) from rfl)) $$ Hw
  iapply (do_block m ρ c 0 (off1_0 c) rfl) $$ Hr Hg Hw; iintro Hr Hg Hw
  iapply (step_bar m ρ K c) $$ [HO HatB HcB]
  · isplitr; · iexact Hrec
    isplitr; · iexact Hlev
    isplitl [HO]; · iexact HO
    isplitl [HatB]; · iexact HatB
    iexact HcB
  iintro ⟨HO, HatB, Hslots⟩
  ihave HS := (sends_start m ρ c) $$ [HO Htok Hslots]
  · isplitl [HO]; · iexact HO
    isplitl [Htok]; · iexact Htok
    iexact Hslots
  ihave Hr := (four_rows m ρ c 0 0 rfl (by decide) (by decide) (by decide) (by decide)) $$ Hr
  icases Hr with ⟨H0, H1, H2, H3⟩
  iapply (do_send m ρ K c 0 _ (snd0 c)) $$ Hrec HS H0; iintro HS
  iapply (do_send m ρ K c 1 _ (snd1 c)) $$ Hrec HS H1; iintro HS
  rw [wp_ret]; imodintro
  iapply Hk $$ HS H2 H3 HatB He Hw Hg

/-- Sends 2 and 3, the second block of rows, send 4. -/
theorem part6 {v2 v126 v128 v : BitVec 32} {f : Buf (Elt F) ((c : Thread nD τ).loc cc0_scratch0)} {Q : (Σ' (v164 : BitVec 32), BitVec 32) → sProp 𝕄} :
    records m ρ K ⊢ iprop(sendAt m ρ c 2 -∗ accD m ρ c 2 (by decide) -∗ accD m ρ c 3 (by decide)
      -∗ pt c cc0_scratch3 (wC m ρ c) -∗ pt c cc0_scratch2 (xgC m ρ c) -∗ rowPts c (blk c 1) f
      -∗ (∀ v164 v, sendAt m ρ c 5 -∗ accD m ρ c 5 (by decide) -∗ accD m ρ c 6 (by decide)
        -∗ accD m ρ c 7 (by decide) -∗ pt c cc0_scratch3 (wC m ρ c) -∗ pt c cc0_scratch2 (xgC m ρ c) -∗ Q ⟨v164, v⟩)
      -∗ wp frame (wpE (defs₀ (F := F)) 𝒱₀ (c : Thread nD τ) none) Set.univ (k0_part6 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 v126 v128 v) Q) := by
  rw [k0_part6_eq_skeleton]; unfold k0_part6_skel
  simp (zetaHave := false) only [semSignalWord, semWaitWord, Prog.lift, Prog.bind_op, Prog.bind_ret, Prog.pure_eq_ret, wp_deviceId]
  iintro #Hrec HS H2 H3 Hw Hg Hr Hk
  iapply (do_send m ρ K c 2 _ (snd2 c)) $$ Hrec HS H2; iintro HS
  iapply (do_send m ρ K c 3 _ (snd3 c)) $$ Hrec HS H3; iintro HS
  iapply (do_block m ρ c 1 (off1_1 c) pay8_eq) $$ Hr Hg Hw; iintro Hr Hg Hw
  ihave Hr := (four_rows m ρ c 1 4 rfl (by decide) (by decide) (by decide) (by decide)) $$ Hr
  icases Hr with ⟨H4, H5, H6, H7⟩
  iapply (do_send m ρ K c 4 _ (snd4 c)) $$ Hrec HS H4; iintro HS
  rw [wp_ret]; imodintro
  iapply Hk $$ HS H5 H6 H7 Hw Hg

/-- Sends 5, 6 and 7, the third block of rows, send 8. -/
theorem part7 {v2 v126 v164 v : BitVec 32} {f : Buf (Elt F) ((c : Thread nD τ).loc cc0_scratch0)} {Q : BitVec 32 → sProp 𝕄} :
    records m ρ K ⊢ iprop(sendAt m ρ c 5 -∗ accD m ρ c 5 (by decide) -∗ accD m ρ c 6 (by decide)
      -∗ accD m ρ c 7 (by decide) -∗ pt c cc0_scratch3 (wC m ρ c) -∗ pt c cc0_scratch2 (xgC m ρ c) -∗ rowPts c (blk c 2) f
      -∗ (∀ v, sendAt m ρ c 9 -∗ accD m ρ c 9 (by decide) -∗ accD m ρ c 10 (by decide)
        -∗ accD m ρ c 11 (by decide) -∗ pt c cc0_scratch3 (wC m ρ c) -∗ pt c cc0_scratch2 (xgC m ρ c) -∗ Q v)
      -∗ wp frame (wpE (defs₀ (F := F)) 𝒱₀ (c : Thread nD τ) none) Set.univ (k0_part7 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 v126 v164 v) Q) := by
  rw [k0_part7_eq_skeleton]; unfold k0_part7_skel
  simp (zetaHave := false) only [semSignalWord, semWaitWord, Prog.lift, Prog.bind_op, Prog.bind_ret, Prog.pure_eq_ret, wp_deviceId]
  iintro #Hrec HS H5 H6 H7 Hw Hg Hr Hk
  iapply (do_send m ρ K c 5 _ (snd5 c)) $$ Hrec HS H5; iintro HS
  iapply (do_send m ρ K c 6 _ (snd6 c)) $$ Hrec HS H6; iintro HS
  iapply (do_send m ρ K c 7 _ (snd7 c)) $$ Hrec HS H7; iintro HS
  iapply (do_block m ρ c 2 (off1_2 c) pay9_eq) $$ Hr Hg Hw; iintro Hr Hg Hw
  ihave Hr := (four_rows m ρ c 2 8 rfl (by decide) (by decide) (by decide) (by decide)) $$ Hr
  icases Hr with ⟨H8, H9, H10, H11⟩
  iapply (do_send m ρ K c 8 _ (snd8 c)) $$ Hrec HS H8; iintro HS
  rw [wp_ret]; imodintro
  iapply Hk $$ HS H9 H10 H11 Hw Hg

/-- Sends 9, 10 and 11, the last block of rows. -/
theorem part8 {v2 v126 v : BitVec 32} {f : Buf (Elt F) ((c : Thread nD τ).loc cc0_scratch0)} {Q : (Σ' (v236 : BitVec 32) (v248 : BitVec 32), BitVec 32) → sProp 𝕄} :
    records m ρ K ⊢ iprop(sendAt m ρ c 9 -∗ accD m ρ c 9 (by decide) -∗ accD m ρ c 10 (by decide)
      -∗ accD m ρ c 11 (by decide) -∗ pt c cc0_scratch3 (wC m ρ c) -∗ pt c cc0_scratch2 (xgC m ρ c) -∗ rowPts c (blk c 3) f
      -∗ (∀ v236 v248 v, sendAt m ρ c 12 -∗ rowPts c (blk c 3) (accC m ρ c) -∗ pt c cc0_scratch3 (wC m ρ c) -∗ pt c cc0_scratch2 (xgC m ρ c) -∗ Q ⟨v236, v248, v⟩)
      -∗ wp frame (wpE (defs₀ (F := F)) 𝒱₀ (c : Thread nD τ) none) Set.univ (k0_part8 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 v126 v) Q) := by
  rw [k0_part8_eq_skeleton]; unfold k0_part8_skel
  simp (zetaHave := false) only [semSignalWord, semWaitWord, Prog.lift, Prog.bind_op, Prog.bind_ret, Prog.pure_eq_ret, wp_deviceId]
  iintro #Hrec HS H9 H10 H11 Hw Hg Hr Hk
  iapply (do_send m ρ K c 9 _ (snd9 c)) $$ Hrec HS H9; iintro HS
  iapply (do_send m ρ K c 10 _ (snd10 c)) $$ Hrec HS H10; iintro HS
  iapply (do_send m ρ K c 11 _ (snd11 c)) $$ Hrec HS H11; iintro HS
  iapply (do_block m ρ c 3 (off1_3 c) pay10_eq) $$ Hr Hg Hw; iintro Hr Hg Hw
  rw [wp_ret]; imodintro
  iapply Hk $$ HS Hr Hw Hg

/-- The last four sends; the device's own tokens, the shared expert's matrix and its own rows are loaded. -/
theorem part9 {v2 v236 v248 v : BitVec 32} {f : Buf (Elt F) ((c : Thread nD τ).loc cc0_scratch1)}
    {Q : (Σ' (v277 : FVec F S32x512 .f32) (v280 : Vec F S32x512 .bf16), Vec F S1x32x512 .bf16) → sProp 𝕄} :
    records m ρ K ⊢ iprop(sendAt m ρ c 12 -∗ rowPts c (blk c 3) (accC m ρ c) -∗ pt c cc0_stg0_0 (xstg m ρ c) -∗ pt c cc0_stg4_0 (swstg m ρ c) -∗ commPts c c f
      -∗ (∀ w, debt c 0 -∗ off c (fun d => cred (tallyAt (sendCell c d) () N)) -∗ accPts c c (accC m ρ c)
        -∗ pt c cc0_stg0_0 (xstg m ρ c) -∗ pt c cc0_stg4_0 (swstg m ρ c) -∗ commPts c c f -∗ Q ⟨k0_pay11 (xRows m ρ c) (swstg m ρ c), accRows m ρ c, w⟩)
      -∗ wp frame (wpE (defs₀ (F := F)) 𝒱₀ (c : Thread nD τ) none) Set.univ (k0_part9 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 v236 v248 v) Q) := by
  rw [k0_part9_eq_skeleton]; unfold k0_part9_skel
  simp (zetaHave := false) only [semSignalWord, semWaitWord, Prog.lift, Prog.bind_op, Prog.bind_ret, Prog.pure_eq_ret, wp_deviceId]
  iintro #Hrec HS Hr Hx Hs Hc Hk
  ihave Hr := (four_rows m ρ c 3 12 rfl (by decide) (by decide) (by decide) (by decide)) $$ Hr
  icases Hr with ⟨H12, H13, H14, H15⟩
  iapply (do_send m ρ K c 12 _ (snd12 c)) $$ Hrec HS H12; iintro HS
  iapply (do_send m ρ K c 13 _ (snd13 c)) $$ Hrec HS H13; iintro HS
  iapply (do_send m ρ K c 14 _ (snd14 c)) $$ Hrec HS H14; iintro HS
  iapply (do_send m ρ K c 15 _ (snd15 c)) $$ Hrec HS H15; iintro HS
  ihave HS := (sends_done m ρ c) $$ HS
  icases HS with ⟨HO, Hacc, Hcr⟩
  iapply (do_xrows m ρ c (k0_off66_eq c)) $$ Hx; iintro Hx
  ihave Hs' := (Entails.of_eq (pt_def c cc0_stg4_0 (swstg m ρ c))) $$ Hs
  iapply (wp_load 𝒱₀ (c : Thread nD τ) none Set.univ (m := swM) (Finset.subset_univ _)) $$ Hs'; iintro Hs
  ihave Hs := (Entails.of_eq (pt_def c cc0_stg4_0 (swstg m ρ c)).symm) $$ Hs
  rw [rd_sw]
  iapply (do_accrows m ρ c (k0_off67_eq c)) $$ Hacc; iintro Hacc
  iapply (do_slot_load c (k0_off68_eq c)) $$ Hc; iintro %w Hc
  rw [wp_ret]; imodintro
  iapply Hk $$ HO Hcr Hacc Hx Hs Hc

end Cert.KernelIdeal.Moe

end

end
-- ==== Proof.Parts2.lean ====
/-
# The second half of the body, part by part

The arrivals, the sum, and the waits for the ends of the sends.
-/
module

public import proofs.«01_k».proof.Proof.Turns
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
local notation "𝕄" => MT nD τ sig Unit (Elt F) ℕ UU ℕ
variable (m : (ℓ : Loc nD τ sig) → Buf (Elt F) ℓ) (ρ : Dev nD → PrngReg) (K : Dev nD × CK → ℕ) (c : Dev nD)

attribute [local irreducible] k0_pay1 k0_pay2 k0_pay4 k0_pay5 k0_pay6 k0_pay7 k0_pay8 k0_pay9 k0_pay10 k0_pay11 k0_pay12 k0_pay13

attribute [local irreducible] k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31
  k0_cond1 k0_cond2 k0_cond3 k0_cond4 k0_cond5 k0_cond6 k0_cond7 k0_cond8 k0_cond9 k0_cond10 k0_cond11 k0_cond12 k0_cond13 k0_cond14 k0_cond15 k0_cond16
attribute [local irreducible] k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86
  k0_cond17 k0_cond18 k0_cond19 k0_cond20 k0_cond21 k0_cond22 k0_cond23 k0_cond24 k0_cond25 k0_cond26 k0_cond27 k0_cond28 k0_cond29 k0_cond30 k0_cond31 k0_cond32

/-- The device's own rows go into its own slot; the first two arrivals. -/
theorem part10 {v2 : BitVec 32} {w : Vec F S1x32x512 .bf16} {f : Buf (Elt F) ((c : Thread nD τ).loc cc0_scratch1)} {Q : PUnit → sProp 𝕄} :
    records m ρ K ⊢ iprop(debt c 0 -∗ recvIn (F := F) c -∗ commPts c c f -∗ (recvAt m ρ c 3 -∗ Q ⟨⟩)
      -∗ wp frame (wpE (defs₀ (F := F)) 𝒱₀ (c : Thread nD τ) none) Set.univ (k0_part10 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 (accRows m ρ c) w) Q) := by
  rw [k0_part10_eq_skeleton]; unfold k0_part10_skel
  simp (zetaHave := false) only [semSignalWord, semWaitWord, Prog.lift, Prog.bind_op, Prog.bind_ret, Prog.pure_eq_ret, wp_deviceId]
  iintro #Hrec HO Hin Hc Hk
  iapply (do_slot_store m ρ c (k0_off68_eq c)) $$ Hc; iintro Hc
  ihave HS := (recvs_start m ρ c) $$ [HO Hin Hc]
  · isplitl [HO]; · iexact HO
    isplitl [Hin]; · iexact Hin
    iexact Hc
  iapply (do_recv m ρ K c 1 (by decide) (rcv c 1 (by decide))) $$ Hrec HS; iintro HS
  iapply (do_recv m ρ K c 2 (by decide) (rcv c 2 (by decide))) $$ Hrec HS; iintro HS
  rw [wp_ret]; imodintro
  iapply Hk $$ HS

/-- Arrivals 3, 4 and 5. -/
theorem part11 {v2 : BitVec 32} {Q : PUnit → sProp 𝕄} :
    records m ρ K ⊢ iprop(recvAt m ρ c 3 -∗ (recvAt m ρ c 6 -∗ Q ⟨⟩)
      -∗ wp frame (wpE (defs₀ (F := F)) 𝒱₀ (c : Thread nD τ) none) Set.univ (k0_part11 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2) Q) := by
  rw [k0_part11_eq_skeleton]; unfold k0_part11_skel
  simp (zetaHave := false) only [semSignalWord, semWaitWord, Prog.lift, Prog.bind_op, Prog.bind_ret, Prog.pure_eq_ret, wp_deviceId]
  iintro #Hrec HS Hk
  iapply (do_recv m ρ K c 3 (by decide) (rcv c 3 (by decide))) $$ Hrec HS; iintro HS
  iapply (do_recv m ρ K c 4 (by decide) (rcv c 4 (by decide))) $$ Hrec HS; iintro HS
  iapply (do_recv m ρ K c 5 (by decide) (rcv c 5 (by decide))) $$ Hrec HS; iintro HS
  rw [wp_ret]; imodintro
  iapply Hk $$ HS

/-- Arrivals 6, 7 and 8. -/
theorem part12 {v2 : BitVec 32} {Q : (Σ' (v376 : BitVec 32), BitVec 32) → sProp 𝕄} :
    records m ρ K ⊢ iprop(recvAt m ρ c 6 -∗ (∀ a b, recvAt m ρ c 9 -∗ Q ⟨a, b⟩)
      -∗ wp frame (wpE (defs₀ (F := F)) 𝒱₀ (c : Thread nD τ) none) Set.univ (k0_part12 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2) Q) := by
  rw [k0_part12_eq_skeleton]; unfold k0_part12_skel
  simp (zetaHave := false) only [semSignalWord, semWaitWord, Prog.lift, Prog.bind_op, Prog.bind_ret, Prog.pure_eq_ret, wp_deviceId]
  iintro #Hrec HS Hk
  iapply (do_recv m ρ K c 6 (by decide) (rcv c 6 (by decide))) $$ Hrec HS; iintro HS
  iapply (do_recv m ρ K c 7 (by decide) (rcv c 7 (by decide))) $$ Hrec HS; iintro HS
  iapply (do_recv m ρ K c 8 (by decide) (rcv c 8 (by decide))) $$ Hrec HS; iintro HS
  rw [wp_ret]; imodintro
  iapply Hk $$ HS

/-- Arrivals 9, 10 and 11. -/
theorem part13 {v2 a b : BitVec 32} {Q : BitVec 32 → sProp 𝕄} :
    records m ρ K ⊢ iprop(recvAt m ρ c 9 -∗ (∀ a, recvAt m ρ c 12 -∗ Q a)
      -∗ wp frame (wpE (defs₀ (F := F)) 𝒱₀ (c : Thread nD τ) none) Set.univ (k0_part13 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 a b) Q) := by
  rw [k0_part13_eq_skeleton]; unfold k0_part13_skel
  simp (zetaHave := false) only [semSignalWord, semWaitWord, Prog.lift, Prog.bind_op, Prog.bind_ret, Prog.pure_eq_ret, wp_deviceId]
  iintro #Hrec HS Hk
  iapply (do_recv m ρ K c 9 (by decide) (rcv c 9 (by decide))) $$ Hrec HS; iintro HS
  iapply (do_recv m ρ K c 10 (by decide) (rcv c 10 (by decide))) $$ Hrec HS; iintro HS
  iapply (do_recv m ρ K c 11 (by decide) (rcv c 11 (by decide))) $$ Hrec HS; iintro HS
  rw [wp_ret]; imodintro
  iapply Hk $$ HS

/-- Arrivals 12, 13 and 14. -/
theorem part14 {v2 a : BitVec 32} {Q : (Σ' (v439 : BitVec 32), BitVec 32) → sProp 𝕄} :
    records m ρ K ⊢ iprop(recvAt m ρ c 12 -∗ (∀ a b, recvAt m ρ c 15 -∗ Q ⟨a, b⟩)
      -∗ wp frame (wpE (defs₀ (F := F)) 𝒱₀ (c : Thread nD τ) none) Set.univ (k0_part14 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 a) Q) := by
  rw [k0_part14_eq_skeleton]; unfold k0_part14_skel
  simp (zetaHave := false) only [semSignalWord, semWaitWord, Prog.lift, Prog.bind_op, Prog.bind_ret, Prog.pure_eq_ret, wp_deviceId]
  iintro #Hrec HS Hk
  iapply (do_recv m ρ K c 12 (by decide) (rcv c 12 (by decide))) $$ Hrec HS; iintro HS
  iapply (do_recv m ρ K c 13 (by decide) (rcv c 13 (by decide))) $$ Hrec HS; iintro HS
  iapply (do_recv m ρ K c 14 (by decide) (rcv c 14 (by decide))) $$ Hrec HS; iintro HS
  rw [wp_ret]; imodintro
  iapply Hk $$ HS

/-- The last arrival; the sum of the slots and the shared part is stored; sends 0 to 3 have ended. -/
theorem part15 {v2 a b : BitVec 32} {f : (cc0_stg5_0 : Ref sig .tc).ty.Contents (Elt F)} {Q : BitVec 1 → sProp 𝕄} :
    records m ρ K ⊢ iprop(recvAt m ρ c 15 -∗ pt c cc0_stg5_0 f -∗ off c (fun t => atPos ER (sendCell c t) 0 ∅ 0) -∗ off c (fun t => cred (tallyAt (sendCell c t) () N))
      -∗ (∀ v, drainAt m ρ c 4 -∗ pt c cc0_stg5_0 (outC m ρ c) -∗ pt c cc0_scratch1 (commC m ρ c)
        -∗ bigSep Finset.univ (fun t => atPos ER (recvCell c t) (rnd c t) ∅ 0) -∗ Q v)
      -∗ wp frame (wpE (defs₀ (F := F)) 𝒱₀ (c : Thread nD τ) none) Set.univ (k0_part15 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 (k0_pay11 (xRows m ρ c) (swstg m ρ c)) a b) Q) := by
  rw [k0_part15_eq_skeleton]; unfold k0_part15_skel
  simp (zetaHave := false) only [semSignalWord, semWaitWord, Prog.lift, Prog.bind_op, Prog.bind_ret, Prog.pure_eq_ret, wp_deviceId]
  iintro #Hrec HS Ho Hat Hcr Hk
  iapply (do_recv m ρ K c 15 (by decide) (rcv c 15 (by decide))) $$ Hrec HS; iintro HS
  ihave HS := (recvs_done m ρ c) $$ HS
  icases HS with ⟨HO, Hc, Hv⟩
  ihave Hc := (Entails.of_eq (pt_def c cc0_scratch1 (commC m ρ c))) $$ Hc
  ihave Ho := (Entails.of_eq (pt_def c cc0_stg5_0 f)) $$ Ho
  iapply (wp_load 𝒱₀ (c : Thread nD τ) none Set.univ (m := commM) (Finset.subset_univ _)) $$ Hc; iintro Hc
  rw [rd_comm]
  iapply (wp_load 𝒱₀ (c : Thread nD τ) none Set.univ (m := outM) (Finset.subset_univ _)) $$ Ho; iintro Ho
  iapply (wp_store 𝒱₀ (c : Thread nD τ) none Set.univ (m := outM) (r := Rect.unit (s := S32x512) ![0, 0] S32x512.size inb_S32x512_S32x512_0_0)
    (Mk := Finset.univ) (Finset.subset_univ _)) $$ Ho; iintro Ho
  rw [wr_out]
  ihave Hc := (Entails.of_eq (pt_def c cc0_scratch1 (commC m ρ c)).symm) $$ Hc
  ihave Ho := (Entails.of_eq (pt_def c cc0_stg5_0 (k0_pay13 (k0_pay11 (xRows m ρ c) (swstg m ρ c)) (commC m ρ c))).symm) $$ Ho
  ihave Ho := (Entails.of_eq (show (pt c cc0_stg5_0 (k0_pay13 (k0_pay11 (xRows m ρ c) (swstg m ρ c)) (commC m ρ c)) : sProp 𝕄) = pt c cc0_stg5_0 (outC m ρ c) from rfl)) $$ Ho
  ihave HS := (drains_start m ρ c) $$ [HO Hat Hcr]
  · isplitl [HO]; · iexact HO
    isplitl [Hat]; · iexact Hat
    iexact Hcr
  iapply (do_drain m ρ K c 0 (by decide) (drn0 c) rfl) $$ Hrec HS; iintro HS
  iapply (do_drain m ρ K c 1 (by decide) (drn1 c) rfl) $$ Hrec HS; iintro HS
  iapply (do_drain m ρ K c 2 (by decide) (drn2 c) rfl) $$ Hrec HS; iintro HS
  iapply (do_drain m ρ K c 3 (by decide) (drn3 c) rfl) $$ Hrec HS; iintro HS
  rw [wp_ret]; imodintro
  iapply Hk $$ HS Ho Hc Hv

/-- Sends 4 to 11 have ended. -/
theorem part16 {v2 : BitVec 32} {a : BitVec 1} {Q : PUnit → sProp 𝕄} :
    records m ρ K ⊢ iprop(drainAt m ρ c 4 -∗ (drainAt m ρ c 12 -∗ Q ⟨⟩)
      -∗ wp frame (wpE (defs₀ (F := F)) 𝒱₀ (c : Thread nD τ) none) Set.univ (k0_part16 xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5 c v2 a) Q) := by
  rw [k0_part16_eq_skeleton]; unfold k0_part16_skel
  simp (zetaHave := false) only [semSignalWord, semWaitWord, Prog.lift, Prog.bind_op, Prog.bind_ret, Prog.pure_eq_ret, wp_deviceId]
  iintro #Hrec HS Hk
  iapply (do_drain m ρ K c 4 (by decide) (drn4 c) rfl) $$ Hrec HS; iintro HS
  iapply (do_drain m ρ K c 5 (by decide) (drn5 c) rfl) $$ Hrec HS; iintro HS
  iapply (do_drain m ρ K c 6 (by decide) (drn6 c) rfl) $$ Hrec HS; iintro HS
  iapply (do_drain m ρ K c 7 (by decide) (drn7 c) rfl) $$ Hrec HS; iintro HS
  iapply (do_drain m ρ K c 8 (by decide) (drn8 c) rfl) $$ Hrec HS; iintro HS
  iapply (do_drain m ρ K c 9 (by decide) (drn9 c) rfl) $$ Hrec HS; iintro HS
  iapply (do_drain m ρ K c 10 (by decide) (drn10 c) rfl) $$ Hrec HS; iintro HS
  iapply (do_drain m ρ K c 11 (by decide) (drn11 c) rfl) $$ Hrec HS; iintro HS
  rw [wp_ret]; imodintro
  iapply Hk $$ HS

end Cert.KernelIdeal.Moe

end

end
-- ==== Proof.Body.lean ====
/-
# The kernel's body, whole

The sixteen parts one after the other and the four last drains, from what a device holds when the kernel starts to what
it holds when it ends; and, from that, the obligation of the pipeline that calls the body.
-/
module

public import proofs.«01_k».proof.Proof.Parts1
public import proofs.«01_k».proof.Proof.Parts2
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
local notation "𝕄" => MT nD τ sig Unit (Elt F) ℕ UU ℕ
variable (m : (ℓ : Loc nD τ sig) → Buf (Elt F) ℓ) (ρ : Dev nD → PrngReg) (K : Dev nD × CK → ℕ) (c : Dev nD)

attribute [local irreducible] k0_pay1 k0_pay2 k0_pay4 k0_pay5 k0_pay6 k0_pay7 k0_pay8 k0_pay9 k0_pay10 k0_pay11 k0_pay12 k0_pay13

attribute [local irreducible] k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31
  k0_cond1 k0_cond2 k0_cond3 k0_cond4 k0_cond5 k0_cond6 k0_cond7 k0_cond8 k0_cond9 k0_cond10 k0_cond11 k0_cond12 k0_cond13 k0_cond14 k0_cond15 k0_cond16
attribute [local irreducible] k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86
  k0_cond17 k0_cond18 k0_cond19 k0_cond20 k0_cond21 k0_cond22 k0_cond23 k0_cond24 k0_cond25 k0_cond26 k0_cond27 k0_cond28 k0_cond29 k0_cond30 k0_cond31 k0_cond32

/-- One assertion per cell of a device: the barrier, the send cells, the receive cells. -/
theorem cells_split (Φ : CK → sProp 𝕄) : bigSep Finset.univ Φ
    = iprop(Φ (.inl ()) ∗ bigSep Finset.univ (fun t : Dev nD => Φ (.inr (.inl t))) ∗ bigSep Finset.univ (fun t : Dev nD => Φ (.inr (.inr t)))) := by
  rw [bigSep_univ_sum, bigSep_univ_sum, bigSep_eq_bigSepL_of_eq [()] (by decide) (by decide)]
  rfl

/-- The device's places at its cells, all in round 0. -/
def places : sProp 𝕄 := bigSep Finset.univ (fun k : CK => atPos ER (kcell (c, k)) 0 ∅ 0)

/-- A device's places: at its barrier, at its send cells, at its receive cells, its own apart from the others. -/
theorem places_split : places (F := F) c ⊢ iprop(atPos ER (barCell c) 0 ∅ 0
    ∗ (atPos ER (sendCell c c) 0 ∅ 0 ∗ off c (fun t => atPos ER (sendCell c t) 0 ∅ 0))
    ∗ (atPos ER (recvCell c c) 0 ∅ 0 ∗ off c (fun t => atPos ER (recvCell c t) 0 ∅ 0))) := by
  unfold places
  rw [cells_split, off_add c (fun t => atPos ER (kcell (c, .inr (.inl t))) 0 ∅ 0), off_add c (fun t => atPos ER (kcell (c, .inr (.inr t))) 0 ∅ 0)]

/-- The places at the receive cells and their credits are what the arrivals start from. -/
theorem recv_in : iprop(atPos ER (recvCell c c) 0 ∅ 0 ∗ off c (fun t => atPos ER (recvCell c t) 0 ∅ 0)
    ∗ off c (fun t => cred (tallyAt (recvCell c t) () N))) ⊢ recvIn (F := F) c := by
  unfold recvIn
  rw [off_sep]

/-- Every cell of the device at its end: all the counters are zero and the device's again. -/
theorem all_closed : iprop(records m ρ K ∗ atPos ER (barCell c) 1 ∅ 0 ∗ bigSep Finset.univ (fun t => atPos ER (sendCell c t) (rnd c t) ∅ 0)
      ∗ bigSep Finset.univ (fun t => atPos ER (recvCell c t) (rnd c t) ∅ 0))
    ⊢ iprop(|={Set.univ}=> bigSep Finset.univ (fun k : CK => semVal (kcell (c, k)) 0)) := by
  refine BI.Entails.trans ?_ (close_cells m ρ c K)
  rw [cells_split (F := F) (fun k => atPos ER (kcell (c, k)) (lastRound c k) ∅ 0)]
  exact BI.Entails.refl _

/-- The body, from its sixteen parts: the staged arguments come back, the result is written, the four scratch buffers and
    every cell at zero are the device's. -/
theorem body_run {f5 : (cc0_stg5_0 : Ref sig .tc).ty.Contents (Elt F)} {f0 : (cc0_scratch0 : Ref sig .tc).ty.Contents (Elt F)} {f1 : (cc0_scratch1 : Ref sig .tc).ty.Contents (Elt F)}
    {f2 : (cc0_scratch2 : Ref sig .tc).ty.Contents (Elt F)} {f3 : (cc0_scratch3 : Ref sig .tc).ty.Contents (Elt F)} {Q : PUnit → sProp 𝕄} :
    iprop(records m ρ K ∗ levAts L lv) ⊢ iprop(debt c (O₀ c) -∗ places (F := F) c -∗ off c (fun d => dutyTok ER (barCell d) 0 c) -∗ sendToks (F := F) c
      -∗ cred (tallyAt (barCell c) () 15) -∗ off c (fun t => cred (tallyAt (recvCell c t) () N))
      -∗ pt c cc0_scratch0 f0 -∗ pt c cc0_scratch1 f1 -∗ pt c cc0_scratch2 f2 -∗ pt c cc0_scratch3 f3
      -∗ pt c cc0_stg0_0 (xstg m ρ c) -∗ pt c cc0_stg1_0 (rwstg m ρ c) -∗ pt c cc0_stg2_0 (idxstg m ρ c) -∗ pt c cc0_stg3_0 (ewstg m ρ c)
      -∗ pt c cc0_stg4_0 (swstg m ρ c) -∗ pt c cc0_stg5_0 f5
      -∗ (debt c 0 -∗ pt c cc0_scratch0 (accC m ρ c) -∗ pt c cc0_scratch1 (commC m ρ c) -∗ pt c cc0_scratch2 (xgC m ρ c) -∗ pt c cc0_scratch3 (wC m ρ c)
        -∗ pt c cc0_stg0_0 (xstg m ρ c) -∗ pt c cc0_stg1_0 (rwstg m ρ c) -∗ pt c cc0_stg2_0 (idxstg m ρ c) -∗ pt c cc0_stg3_0 (ewstg m ρ c)
        -∗ pt c cc0_stg4_0 (swstg m ρ c) -∗ pt c cc0_stg5_0 (outC m ρ c)
        -∗ bigSep Finset.univ (fun k : CK => semVal (kcell (c, k)) 0) -∗ Q ⟨⟩)
      -∗ wp frame (wpE (defs₀ (F := F)) 𝒱₀ (c : Thread nD τ) none) Set.univ (cc0_body xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5) Q) := by
  rw [cc0_body_eq_skeleton]; unfold cc0_body_skel
  iintro ⟨#Hrec, #Hlev⟩ HO Hpl Htb Hts HcB HcR Ha Hc Hg Hw Hx Hrw Hi He Hs Ho Hk
  ihave Hpl := (places_split c) $$ Hpl
  icases Hpl with ⟨HatB, ⟨HatSs, HatS⟩, ⟨HatRs, HatR⟩⟩
  ihave HS := (signals_start c f1) $$ [HO Htb Hc]
  · isplitl [HO]; · iexact HO
    isplitl [Htb]; · iexact Htb
    iexact Hc
  icases HS with ⟨HS, Hc⟩
  ihave Ha := (four_blocks c f0) $$ Ha
  icases Ha with ⟨Ha0, Ha1, Ha2, Ha3⟩
  rw [wp_bind]
  iapply (part1 m ρ K c) $$ Hrec HS; iintro %v24 %w1 HS; dsimp only
  rw [wp_bind]
  iapply (part2 m ρ K c) $$ Hrec HS; iintro %v48 %w2 HS; dsimp only
  rw [wp_bind]
  iapply (part3 m ρ K c) $$ Hrec HS Hx Hrw; iintro HO Hx Hrw; dsimp only
  rw [wp_bind]
  iapply (part4 m ρ c) $$ Hi Hg; iintro Hi Hg
  rw [wp_bind]
  iapply (part5 m ρ K c) $$ [] HO HatB HcB Hts He Hw Hg Ha0
  · isplitr; · iexact Hrec
    iexact Hlev
  iintro %v126 %v128 %w5 HS H2 H3 HatB He Hw Hg; dsimp only
  rw [wp_bind]
  iapply (part6 m ρ K c) $$ Hrec HS H2 H3 Hw Hg Ha1; iintro %v164 %w6 HS H5 H6 H7 Hw Hg; dsimp only
  rw [wp_bind]
  iapply (part7 m ρ K c) $$ Hrec HS H5 H6 H7 Hw Hg Ha2; iintro %v200 HS H9 H10 H11 Hw Hg
  rw [wp_bind]
  iapply (part8 m ρ K c) $$ Hrec HS H9 H10 H11 Hw Hg Ha3; iintro %v236 %v248 %w8 HS Ha3 Hw Hg; dsimp only
  rw [wp_bind]
  iapply (part9 m ρ K c) $$ Hrec HS Ha3 Hx Hs Hc; iintro %w9 HO Hcs Hacc Hx Hs Hc; dsimp only
  ihave Hin := (recv_in c) $$ [HatRs HatR HcR]
  · isplitl [HatRs]; · iexact HatRs
    isplitl [HatR]; · iexact HatR
    iexact HcR
  rw [wp_bind]
  iapply (part10 m ρ K c) $$ Hrec HO Hin Hc; iintro HS
  rw [wp_bind]
  iapply (part11 m ρ K c) $$ Hrec HS; iintro HS
  rw [wp_bind]
  iapply (part12 m ρ K c) $$ Hrec HS; iintro %a12 %b12 HS; dsimp only
  rw [wp_bind]
  iapply (part13 m ρ K c) $$ Hrec HS; iintro %a13 HS
  rw [wp_bind]
  iapply (part14 m ρ K c) $$ Hrec HS; iintro %a14 %b14 HS; dsimp only
  rw [wp_bind]
  iapply (part15 m ρ K c) $$ Hrec HS Ho HatS Hcs; iintro %a15 HS Ho Hc HatR
  rw [wp_bind]
  iapply (part16 m ρ K c) $$ Hrec HS; iintro HS
  simp (zetaHave := false) only [Prog.lift, Prog.bind_op, Prog.bind_ret, Prog.pure_eq_ret]
  iapply (do_drain m ρ K c 12 (by decide) (drn12 c) rfl) $$ Hrec HS; iintro HS
  iapply (do_drain m ρ K c 13 (by decide) (drn13 c) rfl) $$ Hrec HS; iintro HS
  iapply (do_drain m ρ K c 14 (by decide) (drn14 c) rfl) $$ Hrec HS; iintro HS
  iapply (do_drain m ρ K c 15 (by decide) (drn15 c) rfl) $$ Hrec HS; iintro HS
  rw [wp_ret]
  ihave HS := (drains_done m ρ c) $$ [HS HatSs Hacc]
  · isplitl [HS]; · iexact HS
    isplitl [HatSs]; · iexact HatSs
    iexact Hacc
  icases HS with ⟨HO, Ha, HatS⟩
  imod (all_closed m ρ K c) $$ [HatB HatS HatR] with Hz
  · isplitr; · iexact Hrec
    isplitl [HatB]; · iexact HatB
    isplitl [HatS]; · iexact HatS
    iexact HatR
  imodintro
  iapply Hk $$ HO Ha Hc Hg Hw Hx Hrw Hi He Hs Ho Hz

/-! ## The pipeline that calls the body: one point, six windows -/

/-- The call has one grid point. -/
theorem cfg0_N : cfg0.N = 1 := by decide
/-- The one point. -/
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- What a device starts from: the cells' records at some names, its place at each of its cells, the tokens of the duties
    it pays, the credits of its barrier and its receive cells, the levels. -/
def ghost (c : Dev nD) : sProp 𝕄 :=
  iprop(records m ρ K ∗ places (F := F) c ∗ off c (fun d => dutyTok ER (barCell d) 0 c) ∗ sendToks (F := F) c)
/-- The credits a device starts with: of its barrier and of its receive cells but its own. -/
def credits (c : Dev nD) : sProp 𝕄 :=
  iprop(cred (tallyAt (barCell c) () 15) ∗ off c (fun t => cred (tallyAt (recvCell c t) () N)))
/-- What a device starts from, with its credits and the levels of the waits. -/
def start (c : Dev nD) : sProp 𝕄 := iprop((∃ K, ghost m ρ K c) ∗ credits (F := F) c ∗ levAts L lv)

/-- The four scratch buffers, whatever they hold. -/
def scratch (c : Dev nD) : sProp 𝕄 :=
  iprop((∃ f, pt (F := F) c cc0_scratch0 f) ∗ (∃ f, pt (F := F) c cc0_scratch1 f) ∗ (∃ f, pt (F := F) c cc0_scratch2 f) ∗ (∃ f, pt (F := F) c cc0_scratch3 f))

/-- What the body has beside the windows: what the device starts from, and the scratch buffers. -/
def Φ₀ (c : Dev nD) : sProp 𝕄 := iprop(start m ρ c ∗ scratch (F := F) c)
/-- What the body leaves beside the windows: the scratch buffers, and every counter at zero. -/
def Φ₁ (c : Dev nD) : sProp 𝕄 := iprop(scratch (F := F) c ∗ bigSep Finset.univ (fun k : CK => semVal (kcell (c, k)) 0))

/-- The pipeline's data on device `c`: five arguments staged and kept, the result written. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rwstg m ρ c
    | ⟨2, _⟩ => idxstg m ρ c
    | ⟨3, _⟩ => ewstg m ρ c
    | ⟨4, _⟩ => swstg m ρ c
    | ⟨5, _⟩ => outC m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- Each of the five arguments is fetched. -/
theorem fetch_in (t : Fin cfg0.N) : (cfg0.win (0 : Fin 6)).fetch t = true ∧ (cfg0.win (1 : Fin 6)).fetch t = true ∧ (cfg0.win (2 : Fin 6)).fetch t = true
    ∧ (cfg0.win (3 : Fin 6)).fetch t = true ∧ (cfg0.win (4 : Fin 6)).fetch t = true := by
  rw [fin_N t]; exact ⟨rfl, rfl, rfl, rfl, rfl⟩

/-- A staging buffer held at the contents `X`. -/
theorem owns_pt (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ pt c b f) := by
  unfold owns pt; simp only [Memref.view_whole, View.read_whole, View.set_whole]

/-- A staging buffer held at `X` is the buffer with the contents `X`. -/
theorem owns_out (c : Dev nD) (b : Ref sig .tc) (X : b.ty.Contents (Elt F)) : iprop(∃ f, ⌜f = X⌝ ∗ pt c b f) ⊢ pt c b X := by
  iintro ⟨%f, %h, Hf⟩
  subst h; iexact Hf
/-- The converse. -/
theorem owns_in (c : Dev nD) (b : Ref sig .tc) (X : b.ty.Contents (Elt F)) : pt c b X ⊢ iprop(∃ f, ⌜f = X⌝ ∗ pt c b f) := by
  iintro H
  iexists _; isplitr; · (ipureintro; rfl)
  iexact H

/-- Before the body, as the pipeline hands it over: what the device starts from, its debt, the windows. -/
def bodyPre (c : Dev nD) : sProp 𝕄 :=
  iprop(Φ₀ m ρ c ∗ (dats m ρ 0 c).owesAt () t₀.castSucc
    ∗ (∃ d, ∃ f, ⌜f = (dats m ρ 0 c).before (0 : Fin 6) t₀ d⌝ ∗ pt c cc0_stg0_0 f)
    ∗ (∃ d, ∃ f, ⌜f = (dats m ρ 0 c).before (1 : Fin 6) t₀ d⌝ ∗ pt c cc0_stg1_0 f)
    ∗ (∃ d, ∃ f, ⌜f = (dats m ρ 0 c).before (2 : Fin 6) t₀ d⌝ ∗ pt c cc0_stg2_0 f)
    ∗ (∃ d, ∃ f, ⌜f = (dats m ρ 0 c).before (3 : Fin 6) t₀ d⌝ ∗ pt c cc0_stg3_0 f)
    ∗ (∃ d, ∃ f, ⌜f = (dats m ρ 0 c).before (4 : Fin 6) t₀ d⌝ ∗ pt c cc0_stg4_0 f)
    ∗ (∃ d, ∃ f, ⌜f = (dats m ρ 0 c).before (5 : Fin 6) t₀ d⌝ ∗ pt c cc0_stg5_0 f))
/-- After it. -/
def bodyPost (c : Dev nD) : sProp 𝕄 :=
  iprop(Φ₁ (F := F) c ∗ (dats m ρ 0 c).owesAt () t₀.succ
    ∗ (∃ f, ⌜f = xstg m ρ c⌝ ∗ pt c cc0_stg0_0 f) ∗ (∃ f, ⌜f = rwstg m ρ c⌝ ∗ pt c cc0_stg1_0 f) ∗ (∃ f, ⌜f = idxstg m ρ c⌝ ∗ pt c cc0_stg2_0 f)
    ∗ (∃ f, ⌜f = ewstg m ρ c⌝ ∗ pt c cc0_stg3_0 f) ∗ (∃ f, ⌜f = swstg m ρ c⌝ ∗ pt c cc0_stg4_0 f) ∗ (∃ f, ⌜f = outC m ρ c⌝ ∗ pt c cc0_stg5_0 f))

/-- Before the body each staged argument is the one fetched. -/
theorem before_in (c : Dev nD) (d0 d1 d2 d3 d4) : (dats m ρ 0 c).before (0 : Fin 6) t₀ d0 = xstg m ρ c ∧ (dats m ρ 0 c).before (1 : Fin 6) t₀ d1 = rwstg m ρ c
    ∧ (dats m ρ 0 c).before (2 : Fin 6) t₀ d2 = idxstg m ρ c ∧ (dats m ρ 0 c).before (3 : Fin 6) t₀ d3 = ewstg m ρ c
    ∧ (dats m ρ 0 c).before (4 : Fin 6) t₀ d4 = swstg m ρ c := by
  obtain ⟨h0, h1, h2, h3, h4⟩ := fetch_in t₀
  unfold Dat.before
  rw [if_pos h0, if_pos h1, if_pos h2, if_pos h3, if_pos h4]
  exact ⟨rfl, rfl, rfl, rfl, rfl⟩

/-- The debt that the pipeline hands over is what the device owes at launch. -/
theorem debt_in (c : Dev nD) : (dats m ρ 0 c).owesAt () t₀.castSucc ⊢ debt c (O₀ c) := by
  unfold Dat.owesAt Pipeline.owesWithin debt
  rw [show (dats m ρ 0 c).owed t₀.castSucc = O₀ c from rfl]
  iintro ⟨%W, %hW, HO⟩
  iexists W; iexact HO
/-- A device that owes nothing gives the pipeline what it asks back. -/
theorem debt_out (c : Dev nD) : debt c 0 ⊢ (dats m ρ 0 c).owesAt () t₀.succ := by
  unfold Dat.owesAt Pipeline.owesWithin debt
  rw [show (dats m ρ 0 c).owed t₀.succ = 0 from rfl]
  iintro ⟨%W, HO⟩
  iexists W; isplitr; · ipureintro; exact fun _ _ => Or.inl trivial
  iexact HO

/-- The body takes what the pipeline hands over to what the pipeline wants back. -/
theorem sound_body (c : Dev nD) : bodyPre m ρ c ⊢ wp frame (wpE (defs₀ (F := F)) 𝒱₀ (c : Thread nD τ) none) Set.univ (cc0_body xM (Memref.isWhole_whole _) rwM (Memref.isWhole_whole _) idxM (Memref.isWhole_whole _) ewM (Memref.isWhole_whole _) swM (Memref.isWhole_whole _) outM (Memref.isWhole_whole _)
        accM (Memref.isWhole_whole _) commM (Memref.isWhole_whole _) xgM (Memref.isWhole_whole _) wM (Memref.isWhole_whole _) cc0_scratch4 cc0_scratch5) (fun _ => bodyPost m ρ c) := by
  unfold bodyPre Φ₀ start ghost credits scratch
  iintro ⟨⟨⟨⟨%K, #Hrec, Hpl, Htb, Hts⟩, ⟨HcB, HcR⟩, #Hlev⟩, ⟨%f0, Ha⟩, ⟨%f1, Hc⟩, ⟨%f2, Hg⟩, ⟨%f3, Hw⟩⟩, HO,
    ⟨%d0, %g0, %h0, Hx⟩, ⟨%d1, %g1, %h1, Hrw⟩, ⟨%d2, %g2, %h2, Hi⟩, ⟨%d3, %g3, %h3, He⟩, ⟨%d4, %g4, %h4, Hs⟩, ⟨%d5, %f5, %h5, Ho⟩⟩
  obtain ⟨e0, e1, e2, e3, e4⟩ := before_in m ρ c d0 d1 d2 d3 d4
  rw [e0] at h0; rw [e1] at h1; rw [e2] at h2; rw [e3] at h3; rw [e4] at h4
  subst h0; subst h1; subst h2; subst h3; subst h4
  ihave HO := (debt_in m ρ c) $$ HO
  iapply (body_run m ρ K c) $$ [] HO Hpl Htb Hts HcB HcR Ha Hc Hg Hw Hx Hrw Hi He Hs Ho
  · isplitr; · iexact Hrec
    iexact Hlev
  iintro HO Ha Hc Hg Hw Hx Hrw Hi He Hs Ho Hz
  unfold bodyPost Φ₁ scratch
  ihave HO := (debt_out m ρ c) $$ HO
  isplitl [Ha Hc Hg Hw Hz]
  · isplitr [Hz]
    · isplitl [Ha]; · iexists _; iexact Ha
      isplitl [Hc]; · iexists _; iexact Hc
      isplitl [Hg]; · iexists _; iexact Hg
      iexists _; iexact Hw
    iexact Hz
  isplitl [HO]; · iexact HO
  isplitl [Hx]; · iapply (owns_in c cc0_stg0_0 (xstg m ρ c)) $$ Hx
  isplitl [Hrw]; · iapply (owns_in c cc0_stg1_0 (rwstg m ρ c)) $$ Hrw
  isplitl [Hi]; · iapply (owns_in c cc0_stg2_0 (idxstg m ρ c)) $$ Hi
  isplitl [He]; · iapply (owns_in c cc0_stg3_0 (ewstg m ρ c)) $$ He
  isplitl [Hs]; · iapply (owns_in c cc0_stg4_0 (swstg m ρ c)) $$ Hs
  iapply (owns_in c cc0_stg5_0 (outC m ρ c)) $$ Ho

/-- One assertion per window, written out. -/
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
/-- The pipeline library's obligation of the body, on device `c`. -/
theorem body_obligation (c : Dev nD) : BodyObligation (dats (F := F) m ρ 0 c) (defs₀ (F := F)) 𝒱₀ () Set.univ := fun t => by
  rw [fin_N t]
  rw [bigSep_W, bigSep_W]
  simp only [owns_pt]
  exact sound_body m ρ c

end Cert.KernelIdeal.Moe

end

end
-- ==== Proof.Deal.lean ====
/-
# The deal at the launch

What the sixteen devices are given when the kernel starts: the ghost state of all their cells, the tokens of every duty
dealt to the device that pays it, the credits of what is owed to it.
-/
module

public import proofs.«01_k».proof.Proof.Body
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
local notation "𝕄" => MT nD τ sig Unit (Elt F) ℕ UU ℕ
variable (m : (ℓ : Loc nD τ sig) → Buf (Elt F) ℓ) (ρ : Dev nD → PrngReg)

/-- The kernel's own semaphores are as the pipeline asks. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-! ## The cells and the tokens, listed -/

/-- A device's cells are distinct. -/
theorem csem_injective : Function.Injective csem := by
  rintro (_ | t | t) (_ | t' | t') h
  · rfl
  · exact absurd h.symm (send_ne_bar t')
  · exact absurd h.symm (recv_ne_bar t')
  · exact absurd h (send_ne_bar t)
  · rw [sendS_inj (SemLoc.dma.inj h)]
  · exact absurd h (send_ne_recv t t')
  · exact absurd h (recv_ne_bar t)
  · exact absurd h (recv_ne_send t t')
  · rw [recvS_inj (SemLoc.dma.inj h)]
/-- All the cells of all devices are distinct. -/
theorem kcell_injective : Function.Injective kcell := by
  rintro ⟨c, k⟩ ⟨c', k'⟩ h
  obtain rfl : c = c' := congrArg (fun g : GSem nD τ sig => g.1.1) h
  have hk : k = k' := csem_injective (congrArg Prod.snd h)
  rw [hk]
/-- Every cell of every device. -/
def moeCells : Finset (GSem nD τ sig) := Finset.univ.map ⟨kcell, kcell_injective⟩

/-- A duty of one of a device's cells: of the barrier, of a send cell, of a receive cell; with the device that pays it. -/
abbrev TK : Type := Dev nD ⊕ (Dev nD ⊕ Dev nD)
/-- The token's cell, round and payer. -/
abbrev tokOf (x : Dev nD × TK) : GSem nD τ sig × ℕ × Dev nD := match x.2 with
  | .inl d => (barCell x.1, 0, d) | .inr (.inl d) => (sendCell x.1 d, 0, d) | .inr (.inr d) => (recvCell x.1 d, 0, d)
/-- The tokens are distinct. -/
theorem tokOf_injective : Function.Injective tokOf := by
  rintro ⟨c, j⟩ ⟨c', j'⟩ h
  obtain rfl : c = c' := by
    have := congrArg (fun x : GSem nD τ sig × ℕ × Dev nD => x.1.1.1) h
    rcases j with j | j | j <;> rcases j' with j' | j' | j' <;> exact this
  have hs := congrArg (fun x : GSem nD τ sig × ℕ × Dev nD => x.1.2) h
  have hd := congrArg (fun x : GSem nD τ sig × ℕ × Dev nD => x.2.2) h
  rcases j with j | j | j <;> rcases j' with j' | j' | j'
  · exact congrArg (fun t => (c, (Sum.inl t : TK))) hd
  · exact absurd hs.symm (send_ne_bar j')
  · exact absurd hs.symm (recv_ne_bar j')
  · exact absurd hs (send_ne_bar j)
  · exact congrArg (fun t => (c, (Sum.inr (Sum.inl t) : TK))) hd
  · exact absurd hs (send_ne_recv j j')
  · exact absurd hs (recv_ne_bar j)
  · exact absurd hs (recv_ne_send j j')
  · exact congrArg (fun t => (c, (Sum.inr (Sum.inr t) : TK))) hd
/-- Every token. -/
def moeToks : Finset (GSem nD τ sig × ℕ × Dev nD) := Finset.univ.map ⟨tokOf, tokOf_injective⟩

/-- The resource that the launch starts from: the pipeline's and the protocol's. -/
def u₀ : UU :=
  (initOf (Pipeline.cells cfgs cellOf_inj) (Pipeline.launchToks cfgs cellOf_inj), initOf moeCells moeToks)

/-- The tokens of the duties of device `c`'s cells. -/
def toks (c : Dev nD) : sProp 𝕄 :=
  iprop(bigSep Finset.univ (fun d : Dev nD => dutyTok ER (barCell c) 0 d) ∗ bigSep Finset.univ (fun d : Dev nD => dutyTok ER (sendCell c d) 0 d)
    ∗ bigSep Finset.univ (fun d : Dev nD => dutyTok ER (recvCell c d) 0 d))
/-- The tokens of the duties that device `c` pays. -/
def payToks (c : Dev nD) : sProp 𝕄 := iprop(off c (fun d => dutyTok ER (barCell d) 0 c) ∗ sendToks (F := F) c)

/-- Of one assertion per device, drop that of `c`. -/
theorem off_drop (c : Dev nD) (Φ : Dev nD → sProp 𝕄) : bigSep Finset.univ Φ ⊢ off c Φ := by
  rw [off_add c]; iintro ⟨-, H⟩; iexact H

/-- One assertion per pair of devices, by either coordinate first. -/
theorem bigSep_swap (Φ : Dev nD → Dev nD → sProp 𝕄) :
    bigSep Finset.univ (fun c => bigSep Finset.univ fun d => Φ c d) = bigSep Finset.univ (fun d => bigSep Finset.univ fun c => Φ c d) := by
  rw [← bigSep_univ_prod (fun p : Dev nD × Dev nD => Φ p.1 p.2), ← bigSep_univ_prod (fun p : Dev nD × Dev nD => Φ p.2 p.1)]
  exact bigSep_univ_equiv (Equiv.prodComm (Dev nD) (Dev nD)) fun p : Dev nD × Dev nD => Φ p.1 p.2

/-- The tokens, from the devices whose cells they belong to, to the devices that pay. -/
theorem toks_deal : (bigSep Finset.univ fun c : Dev nD => toks (F := F) c) ⊢ bigSep Finset.univ fun c : Dev nD => payToks (F := F) c := by
  unfold toks
  rw [bigSep_sep', bigSep_sep', bigSep_swap (F := F) (fun c d : Dev nD => (dutyTok ER (barCell c) 0 d : sProp 𝕄)),
    bigSep_swap (F := F) (fun c d : Dev nD => (dutyTok ER (recvCell c d) 0 d : sProp 𝕄)), ← bigSep_sep', ← bigSep_sep']
  refine bigSep_mono fun c _ => ?_
  unfold payToks sendToks
  rw [off_sep]
  exact BI.sep_mono (off_drop c _) (BI.sep_mono (off_drop c _) (off_drop c _))

/-! ## The ghost state dealt at launch, and what becomes of it -/

/-- What the launch element deals to device `c`. -/
def G (c : Dev nD) : sProp 𝕄 :=
  iprop((bigSep Finset.univ fun k : CK => roundState ER (moeRd m ρ) (kcell (c, k)) 0)
    ∗ (places (F := F) c ∗ bigSep Finset.univ fun k : CK => reached ER (kcell (c, k)) 0) ∗ toks (F := F) c)
/-- What a device then starts from, at some names. -/
def G' (c : Dev nD) : sProp 𝕄 := iprop(∃ K, ghost m ρ K c)

/-- The protocol's initial element gives each device its part. -/
theorem fund_moe : BI.own (ER (initOf moeCells moeToks)) ⊢ (|==> bigSep Finset.univ (G m ρ) : sProp 𝕄) := by
  have hX (Φ : GSem nD τ sig → sProp 𝕄) : bigSep moeCells Φ = bigSep Finset.univ fun c : Dev nD => bigSep Finset.univ fun k : CK => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => toks (F := F) c := by
    unfold moeToks; rw [bigSep_map, bigSep_univ_prod]
    exact bigSep_congr fun c _ => by unfold toks; rw [bigSep_univ_sum, bigSep_univ_sum]; rfl
  iintro HX
  imod (Rounds.fund ER (moeRd m ρ) moeCells moeToks) $$ HX with ⟨Hst, Hr, Hat, Htok⟩
  imodintro
  ihave Hst := (Entails.of_eq (hX fun g => roundState ER (moeRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat]; · iexact Hat
    iexact Hr
  iexact Htok

/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All of a device's counters at zero: the kernel's own, and the barrier's. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [unscopedSems0_eq, cells_split]
  unfold Pipeline.ownSems0
  rw [bigSep_univ_sum]
  rfl

/-- The invariants of a device's cells are made from its counters and its share of the launch element. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (moeRd m ρ) κ (kcell (c, k))))
          ∗ (places (F := F) c ∗ bigSep Finset.univ fun k : CK => reached ER (kcell (c, k)) 0) ∗ toks (F := F) c) := by
  have hinv : iprop((bigSep Finset.univ fun k : CK => semVal (kcell (c, k)) 0) ∗ bigSep Finset.univ fun k : CK => roundState ER (moeRd m ρ) (kcell (c, k)) 0)
      ⊢ (|={Set.univ}=> bigSep Finset.univ fun k : CK => iprop(∃ κ : ℕ, cellInv ER (moeRd m ρ) κ (kcell (c, k))) : sProp 𝕄) := by
    rw [← bigSep_sep']
    exact (bigSep_mono fun k _ => (Rounds.body_intro ER (moeRd m ρ) (kcell (c, k))).trans inv_alloc).trans (bigSep_fupd _ _)
  rw [← sems0_eq] at hinv
  unfold G
  iintro ⟨Hos, Hus, Hst, Hat, Htok⟩
  imod hinv $$ [Hos Hus Hst] with Hinv
  · isplitl [Hos Hus]
    · isplitl [Hus]; · iexact Hus
      iexact Hos
    iexact Hst
  imodintro
  isplitl [Hinv]; · iexact Hinv
  isplitl [Hat]; · iexact Hat
  iexact Htok

/-- All devices at once: one choice of names for all the invariants, every token with its payer. -/
theorem regroup :
    (bigSep Finset.univ fun c : Dev nD => iprop((bigSep Finset.univ fun k : CK => iprop(∃ κ : ℕ, cellInv ER (moeRd m ρ) κ (kcell (c, k))))
          ∗ (places (F := F) c ∗ bigSep Finset.univ fun k : CK => reached ER (kcell (c, k)) 0) ∗ toks (F := F) c) : sProp 𝕄)
      ⊢ bigSep Finset.univ (G' m ρ) := by
  rw [bigSep_sep', bigSep_sep', bigSep_sep', ← bigSep_univ_prod (fun ck : Dev nD × CK => iprop(∃ κ : ℕ, cellInv ER (moeRd m ρ) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (moeRd m ρ) κ (kcell ck) : sProp 𝕄))) $$ HI
  icases HK with ⟨%K, #HI⟩
  ihave Htok := (toks_deal (F := F)) $$ Htok
  have hg : ∀ c ∈ (Finset.univ : Finset (Dev nD)), iprop(records m ρ K ∗ places (F := F) c ∗ payToks (F := F) c) ⊢ G' m ρ c := fun c _ => by
    unfold G' ghost payToks
    iintro ⟨#H, Ha, Hb, Hd⟩
    iexists K
    isplitr; · iexact H
    isplitl [Ha]; · iexact Ha
    isplitl [Hb]; · iexact Hb
    iexact Hd
  iapply (bigSep_with_persistent hg)
  isplitr
  · unfold records; isplitl; · iexact HI
    iexact HR
  rw [bigSep_sep']
  isplitl [Hat]; · iexact Hat
  iexact Htok

/-- From the parts dealt to the devices and their counters at zero, what each device starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What is owed to device `c` in all: a unit to its barrier by each other device, a block's credit to each of its receive
    cells but its own. -/
def T (c : Dev nD) : CellTallies nD τ sig Unit := tallyAt (barCell c) () 15 + ∑ t ∈ Finset.univ.erase c, tallyAt (recvCell c t) () N

/-- All the sends of device `d`: a block's credit to the receive cell of every other device. -/
theorem Orecv_all (d : Dev nD) : Orecv d 0 = ∑ t : Dev nD, if t = d then 0 else tallyAt (recvCell t d) () N := by
  unfold Orecv
  rw [show from_ 0 = Finset.univ from Finset.filter_true_of_mem fun n _ => Nat.zero_le _]
  exact Equiv.sum_comp (dstE d) (fun t : Dev nD => if t = d then (0 : CellTallies nD τ sig Unit) else tallyAt (recvCell t d) () N)

/-- All the signals of device `d`: a unit to the barrier of every other device. -/
theorem Obar_all (d : Dev nD) : Obar d 1 = ∑ t : Dev nD, if t = d then 0 else tallyAt (barCell t) () 1 := by
  unfold Obar
  rw [← Equiv.sum_comp (sgE d) (fun t : Dev nD => if t = d then (0 : CellTallies nD τ sig Unit) else tallyAt (barCell t) () 1)]
  unfold from_
  rw [Finset.sum_filter]
  refine Finset.sum_congr rfl fun n _ => ?_
  by_cases h : n.val = 0
  · rw [if_neg (by omega), if_pos ((sg_self d n).mpr h)]
  · rw [if_pos (by omega), if_neg (fun h' => h ((sg_self d n).mp h'))]; rfl

/-- `n` times one unit is `n` units. -/
theorem tally_many (g : GSem nD τ sig) (n : ℕ) : n • (tallyAt g () 1 : CellTallies nD τ sig Unit) = tallyAt g () n := by
  induction n with
  | zero => rw [zero_smul, tallyAt_zero]
  | succ n ih => rw [succ_nsmul, ih, tallyAt_add]

/-- What the devices owe in all is what is owed to them in all. -/
theorem owed_sum : (∑ d, O₀ d) = ∑ d, T d := by
  unfold O₀ T
  rw [Finset.sum_add_distrib, Finset.sum_add_distrib, add_comm]
  congr 1
  · rw [Finset.sum_congr rfl fun d _ => Obar_all d, Finset.sum_comm]
    refine Finset.sum_congr rfl fun t _ => ?_
    rw [Finset.sum_ite, Finset.sum_const_zero, zero_add, Finset.sum_const]
    rw [show (Finset.univ.filter fun x : Dev nD => ¬t = x).card = 15 from (congrArg Finset.card (Finset.filter_ne Finset.univ t)).trans (by
      rw [Finset.card_erase_of_mem (Finset.mem_univ _), Finset.card_univ]; rfl), tally_many]
  · rw [Finset.sum_congr rfl fun d _ => Orecv_all d, Finset.sum_comm]
    refine Finset.sum_congr rfl fun t _ => ?_
    rw [Finset.sum_ite, Finset.sum_const_zero, zero_add]
    refine Finset.sum_congr ?_ fun _ _ => rfl
    ext d; simp [eq_comm]

/-- What is owed to device `d` is owed to its own cells. -/
theorem T_own (d : Dev nD) (g : GSem nD τ sig) (h : T d g ≠ 0) : g.1 = (d.tc : Thread nD τ) := by
  by_contra hn
  refine h ?_
  unfold T
  rw [Pi.add_apply, Finset.sum_apply, tallyAt_ne_cell (fun e => hn (by rw [e])) () 15,
    Finset.sum_eq_zero (fun t _ => tallyAt_ne_cell (fun e => hn (by rw [e])) () N), add_zero]

/-- The launch's credits are those that a device starts with. -/
theorem creds (c : Dev nD) : (Pipeline.launchCred O₀ c : sProp 𝕄) ⊢ credits (F := F) c := by
  rw [Pipeline.launchCred_of_sum O₀ T owed_sum T_own c]
  unfold T credits off
  rw [← Pipeline.cred_finsetSum]
  exact (cred_add _ _).1

/-! ## The side conditions of the run -/

/-- What a device has at launch gives what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The rest of the call's buffers are the four scratch buffers. -/
theorem scratch_eq (c : Dev nD) : (Pipeline.scopedRest cfg0.spec c : sProp 𝕄) = scratch (F := F) c := by
  rw [scopedRest0_eq]; rfl

/-- The body's start, from what the device starts from and the scratch buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

/-- What the body leaves is what the call must give back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scratch_eq]
  unfold Φ₁
  rw [← sems0_eq]
  iintro ⟨Hr, Hu, Ho⟩
  isplitl [Hu]; · iexact Hu
  isplitl [Ho]; · iexact Ho
  iexact Hr

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdeal.Moe

end

end
-- ==== Proof.Launch.lean ====
/-
# The run

With the deal at the launch and the body's obligation the whole program runs: it ends on every device, with the
arguments as they were, the result computed and every counter at zero.
-/
module

public import proofs.«01_k».proof.Proof.Deal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pipeline.CollectiveSegs
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
local notation "𝕄" => MT nD τ sig Unit (Elt F) ℕ UU ℕ
variable (m : (ℓ : Loc nD τ sig) → Buf (Elt F) ℓ) (ρ : Dev nD → PrngReg)

/-! ## The run -/

/-- Every window's array once the one point is over. -/
def finalA (c : Dev nD) (w : Fin cfg0.W) : Buf (Elt F) ((cfg0.win w).arr.view.loc (c : Thread nD τ)) := (dats m ρ 0 c).arrAt w cfg0.N

/-- Every window's array ends as computed, on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair execution of the sixteen devices ends, with every window's array as
    computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_moe m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- An argument's array holds what it held. -/
theorem finalA_arg (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.KernelIdeal.Moe

end

end
-- ==== Proof.Final.lean ====
/-
# What the run leaves

The five arguments end as they were, every counter is back at zero, and the result array of every device holds the
value the body computed.  The block of each window is the whole array it is cut from, so the staged copies of the
arguments are the arguments themselves.
-/
module

public import proofs.«01_k».proof.Proof.Launch
public import Idealize.ShloMosaic.Lib.Pipeline.ValueKit

@[expose] public section

noncomputable section

namespace Cert.KernelIdeal.Moe

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- The result array ends holding what the body left in its window. -/
theorem finalA_out (c : Dev nD) : finalA m ρ c (5 : Fin 6) = outC m ρ c := by
  refine (dats (F := F) m ρ 0 c).arrAt_eq_of_after_last (5 : Fin 6) t₀ (by decide +kernel) (outC m ρ c) fun j => ?_
  rfl

/-- The frame: the arguments are unchanged on every device and every counter is back at zero. -/
theorem run_frame : θ_run defs (onTc (τ := τ) (main (F := F))) (s₀ m ρ) (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c 0).trans (finalA_arg m ρ c 0 rfl), (h.1 c 1).trans (finalA_arg m ρ c 1 rfl),
      (h.1 c 2).trans (finalA_arg m ρ c 2 rfl), (h.1 c 3).trans (finalA_arg m ρ c 3 rfl),
      (h.1 c 4).trans (finalA_arg m ρ c 4 rfl)⟩, h.2⟩) (run_main m ρ)

/-- The value: the result array of every device holds `outC`, and the arguments are unchanged. -/
theorem run_value : θ_run defs (onTc (τ := τ) (main (F := F))) (s₀ m ρ) (fun r =>
    ∀ c : Dev nD,
      r.2.mem ((c.tc : Thread nD τ).loc main_v1) = outC m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c 5).trans (finalA_out m ρ c), (h.1 c 0).trans (finalA_arg m ρ c 0 rfl), (h.1 c 1).trans (finalA_arg m ρ c 1 rfl),
      (h.1 c 2).trans (finalA_arg m ρ c 2 rfl), (h.1 c 3).trans (finalA_arg m ρ c 3 rfl),
      (h.1 c 4).trans (finalA_arg m ρ c 4 rfl)⟩) (run_main m ρ)

/-! ## The staged arguments are the arguments -/

/-- The staged tokens are the argument. -/
theorem xstg_eq (c : Dev nD) : xstg m ρ c = m ((c.tc : Thread nD τ).loc main_arg0) := by
  funext i
  refine congrArg (m ((c.tc : Thread nD τ).loc main_arg0)) (funext fun a => Fin.ext ?_)
  exact Pipeline.Window.rect_emb_val_of_index_zero win0_0 (0 : Fin 1) a rfl i

/-- The staged router matrix is the argument. -/
theorem rwstg_eq (c : Dev nD) : rwstg m ρ c = m ((c.tc : Thread nD τ).loc main_arg1) := by
  funext i
  refine congrArg (m ((c.tc : Thread nD τ).loc main_arg1)) (funext fun a => Fin.ext ?_)
  exact Pipeline.Window.rect_emb_val_of_index_zero win0_1 (0 : Fin 1) a rfl i

/-- The staged routes are the argument. -/
theorem idxstg_eq (c : Dev nD) : idxstg m ρ c = m ((c.tc : Thread nD τ).loc main_arg2) := by
  funext i
  refine congrArg (m ((c.tc : Thread nD τ).loc main_arg2)) (funext fun a => Fin.ext ?_)
  exact Pipeline.Window.rect_emb_val_of_index_zero win0_2 (0 : Fin 1) a rfl i

/-- The staged expert matrices are the argument. -/
theorem ewstg_eq (c : Dev nD) : ewstg m ρ c = m ((c.tc : Thread nD τ).loc main_arg3) := by
  funext i
  refine congrArg (m ((c.tc : Thread nD τ).loc main_arg3)) (funext fun a => Fin.ext ?_)
  exact Pipeline.Window.rect_emb_val_of_index_zero win0_3 (0 : Fin 1) a rfl i

/-- The staged shared matrix is the argument. -/
theorem swstg_eq (c : Dev nD) : swstg m ρ c = m ((c.tc : Thread nD τ).loc main_arg4) := by
  funext i
  refine congrArg (m ((c.tc : Thread nD τ).loc main_arg4)) (funext fun a => Fin.ext ?_)
  exact Pipeline.Window.rect_emb_val_of_index_zero win0_4 (0 : Fin 1) a rfl i

end Cert.KernelIdeal.Moe

end

end
-- ==== Proof.Layer.lean ====
/-
# The routed layer over the extended reals

A token's probabilities are its scores' exponentials over their sum. The token's routed term is its expert's product
scaled by the probability of that expert. A device computes the same term from rows scaled beforehand, and zero rows
for the experts a token is not routed to; over all devices these terms add up to the routed term, because a
probability of finite scores is a real number that is not negative, by which a sum of extended reals may be scaled
term by term.
-/
module

public import Idealize.ShloMosaic.Lib.Pointwise

@[expose] public section

noncomputable section

namespace Cert.Layer

open Idealize.ShloMosaic

variable (x : Fin 512 → Fin 256 → EReal) (w : Fin 256 → Fin 32 → EReal)

/-- The router's score of token `r` for expert `e`. -/
def score (r : Fin 512) (e : Fin 32) : EReal := ∑ k : Fin 256, x r k * w k e

/-- The greatest score of token `r`. -/
def top (r : Fin 512) : EReal := Finset.univ.fold max (Ideal.ofBits .f32 0xFF800000#32) fun e => score x w r e

/-- The exponential of a score relative to the greatest. -/
def weight (r : Fin 512) (e : Fin 32) : EReal := Ideal.exp (score x w r e - top x w r)

/-- The probability of expert `e` for token `r`. -/
def prob (r : Fin 512) (e : Fin 32) : EReal := Ideal.div (weight x w r e) (∑ e' : Fin 32, weight x w r e')

/-! ## A probability of finite scores is a real number, not negative -/

/-- A finite sum of reals is a real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The word of minus infinity denotes the least extended real. -/
theorem negInf : Ideal.ofBits .f32 0xFF800000#32 = ⊥ := by
  simp [Ideal.ofBits, Ideal.ieee]

/-- The greatest score is one of the scores. -/
theorem top_mem (r : Fin 512) : ∃ e, top x w r = score x w r e := by
  obtain ⟨e, -, h⟩ := Finset.exists_mem_eq_sup (Finset.univ : Finset (Fin 32)) Finset.univ_nonempty (score x w r)
  exact ⟨e, by unfold top; rw [negInf]; exact h⟩

/-- Finite operands give finite scores. -/
theorem score_real (hx : ∀ r k, ∃ a : ℝ, x r k = a) (hw : ∀ k e, ∃ a : ℝ, w k e = a) (r : Fin 512) (e : Fin 32) :
    ∃ a : ℝ, score x w r e = a := by
  choose X hX using hx
  choose W hW using hw
  refine ⟨∑ k, X r k * W k e, ?_⟩
  unfold score
  rw [← coe_sum]
  exact Finset.sum_congr rfl fun k _ => by rw [hX, hW, EReal.coe_mul]

/-- With finite operands every probability is a real number and not negative. -/
theorem prob_real (hx : ∀ r k, ∃ a : ℝ, x r k = a) (hw : ∀ k e, ∃ a : ℝ, w k e = a) (r : Fin 512) (e : Fin 32) :
    ∃ p : ℝ, 0 ≤ p ∧ prob x w r e = p := by
  have hs := score_real x w hx hw r
  choose s hs using hs
  obtain ⟨e₀, h₀⟩ := top_mem x w r
  have hwt : ∀ e', weight x w r e' = (Real.exp (s e' - s e₀) : ℝ) := fun e' => by
    unfold weight
    rw [h₀, hs, hs, ← EReal.coe_sub, Ideal.exp_coe]
  have hpos : 0 < ∑ e' : Fin 32, Real.exp (s e' - s e₀) :=
    Finset.sum_pos (fun _ _ => Real.exp_pos _) Finset.univ_nonempty
  refine ⟨Real.exp (s e - s e₀) * (∑ e' : Fin 32, Real.exp (s e' - s e₀))⁻¹,
    mul_nonneg (Real.exp_pos _).le (inv_nonneg.2 hpos.le), ?_⟩
  unfold prob
  rw [hwt, Finset.sum_congr rfl fun e' _ => hwt e', coe_sum]
  unfold Ideal.div
  rw [if_neg (by exact_mod_cast hpos.ne'), ← EReal.coe_inv, EReal.coe_mul]

/-! ## The devices' terms add up to the routed term -/

/-- A sum of extended reals scaled by a real that is not negative, term by term. -/
theorem mul_sum_real {ι : Type} (p : ℝ) (hp : 0 ≤ p) (s : Finset ι) (f : ι → EReal) :
    (p : EReal) * ∑ i ∈ s, f i = ∑ i ∈ s, (p : EReal) * f i := by
  classical
  induction s using Finset.induction_on with
  | empty => simp
  | insert a s ha ih =>
    rw [Finset.sum_insert ha, Finset.sum_insert ha, ← ih]
    exact EReal.left_distrib_of_nonneg_of_ne_top (by exact_mod_cast hp) (EReal.coe_ne_top p) _ _

/-- A sum over `M * N` positions, by quotient and remainder. -/
theorem sum_divMod {M N : ℕ} (f : Fin M → Fin N → EReal) (hd : ∀ j : Fin (M * N), j.val / N < M) (hm : ∀ j : Fin (M * N), j.val % N < N) :
    ∑ j : Fin (M * N), f ⟨j.val / N, hd j⟩ ⟨j.val % N, hm j⟩ = ∑ a : Fin M, ∑ b : Fin N, f a b := by
  rw [← Fintype.sum_prod_type' f]
  exact Fintype.sum_equiv finProdFinEquiv.symm _ _ fun j => rfl

/-- The two experts of every device are the thirty-two experts. -/
theorem sum_experts (g : Fin 32 → EReal) :
    ∑ c : Fin 16, ∑ a : Fin 2, g ⟨2 * c.val + a.val, by omega⟩ = ∑ e : Fin 32, g e := by
  rw [← sum_divMod (M := 16) (N := 2) (fun c a => g ⟨2 * c.val + a.val, by omega⟩) (fun j => by omega) (fun j => by omega)]
  exact Finset.sum_congr rfl fun e _ => congrArg g (Fin.ext (Nat.div_add_mod e.val 2))

/-- What device `c` adds to a token's result: over its two experts' rows, laid one after the other, the token's row
    scaled by its probability where the token is routed there and zero elsewhere. -/
def share (p : Fin 32 → EReal) (t : Fin 32) (row : Fin 256 → EReal) (E : Fin 32 → Fin 256 → EReal) (c : Fin 16) : EReal :=
  ∑ j : Fin 512, (if t.val = 2 * c.val + j.val / 256 then p ⟨2 * c.val + j.val / 256, by omega⟩ * row ⟨j.val % 256, by omega⟩ else 0)
    * E ⟨2 * c.val + j.val / 256, by omega⟩ ⟨j.val % 256, by omega⟩

/-- The devices' shares add up to the probability of the token's expert times the product with that expert. -/
theorem sum_share (p : Fin 32 → EReal) (t : Fin 32) (row : Fin 256 → EReal) (E : Fin 32 → Fin 256 → EReal)
    (hp : ∃ q : ℝ, 0 ≤ q ∧ p t = q) :
    ∑ c : Fin 16, share p t row E c = p t * ∑ k : Fin 256, row k * E t k := by
  have h : ∀ c : Fin 16, share p t row E c
      = ∑ a : Fin 2, (fun e : Fin 32 => ∑ k : Fin 256, (if t = e then p e * row k else 0) * E e k) ⟨2 * c.val + a.val, by omega⟩ := fun c => by
    refine (sum_divMod (M := 2) (N := 256) (fun a k => (if t.val = 2 * c.val + a.val then p ⟨2 * c.val + a.val, by omega⟩ * row k else 0)
      * E ⟨2 * c.val + a.val, by omega⟩ k) (fun j => by omega) (fun j => by omega)).trans ?_
    simp only [Fin.ext_iff]
  rw [Finset.sum_congr rfl fun c _ => h c]
  refine (sum_experts fun e : Fin 32 => ∑ k : Fin 256, (if t = e then p e * row k else 0) * E e k).trans ?_
  rw [Finset.sum_eq_single t]
  · obtain ⟨q, hq, e⟩ := hp
    rw [e, mul_sum_real q hq]
    exact Finset.sum_congr rfl fun k _ => by rw [if_pos rfl, mul_assoc]
  · exact fun e _ hne => Finset.sum_eq_zero fun k _ => by rw [if_neg (Ne.symm hne), zero_mul]
  · exact fun h => absurd (Finset.mem_univ t) h

end Cert.Layer

end

end
-- ==== Proof.Value.lean ====
/-
# The kernel's result at an index

Over the extended reals device `c`'s result for its token `r` and output `o` is the shared product plus the sum of
what every device adds for that token.
-/
module

public import proofs.«01_k».proof.Proof.Final
public import proofs.«01_k».proof.Proof.Layer
public import Idealize.ShloMosaic.Lib.StableHlo.Predicate
public import Idealize.ShloMosaic.Lib.Pointwise.IndexBridge

@[expose] public section

set_option maxRecDepth 16384

noncomputable section

namespace Cert.KernelIdeal.Moe

open Cert.KernelIdeal Cert.KernelIdeal.Gen
open Idealize.ShloMosaic Idealize.ShloMosaic.TcCoe Idealize.SL.Sem

/-! ## The payloads at an index -/

/-- The payload's probabilities are the layer's. -/
theorem pay2_apply (x : Vec Ideal S512x256 .bf16) (w : Vec Ideal S256x32 .bf16) (r : Fin 512) (e : Fin 32) :
    k0_pay2 (F := Ideal) x w (ix2 r e) = Cert.Layer.prob (fun r k => x (ix2 r k)) (fun k e => w (ix2 k e)) r e := by
  pointwise [k0_pay2, k0_pay1, Cert.Layer.prob, Cert.Layer.weight, Cert.Layer.top, Cert.Layer.score]

/-- The word of expert `a` of device `c`. -/
theorem expert_word (c : Dev nD) : Scalar.addi (Scalar.muli (myW c) 2#32) 0#32 = BitVec.ofNat 32 (2 * c.val)
    ∧ Scalar.addi (Scalar.muli (myW c) 2#32) 1#32 = BitVec.ofNat 32 (2 * c.val + 1) := by
  revert c
  decide

/-- A select on the equality of a word with a number's is a condition on the number. -/
theorem select_eq (t : BitVec 32) (n : ℕ) (hn : n < 32) (a b : EReal) :
    Scalar.select (IntOp.cmpi .eq t (BitVec.ofNat 32 n)) a b = if t.toNat = n then a else b := by
  have h : t = BitVec.ofNat 32 n ↔ t.toNat = n := by
    rw [← BitVec.toNat_inj, BitVec.toNat_ofNat, Nat.mod_eq_of_lt (by omega)]
  by_cases e : t.toNat = n
  · rw [h.2 e]
    simp [IntOp.cmpi, Scalar.select, Nat.mod_eq_of_lt (show n < 4294967296 by omega)]
  · have q : (t == BitVec.ofNat 32 n) = false := beq_false_of_ne fun g => e (h.1 g)
    simp [IntOp.cmpi, Scalar.select, q, e]

/-- The sum that picks expert `n` out of a token's probabilities. -/
theorem pick (n : Fin 32) (p : Fin 32 → EReal) :
    ∑ e : Fin 32, Scalar.select (IntOp.cmpi .eq (BitVec.ofNat 32 e.val) (BitVec.ofNat 32 n.val)) (p e) 0 = p n := by
  rw [Finset.sum_eq_single n]
  · rw [select_eq _ _ n.isLt, if_pos (by rw [BitVec.toNat_ofNat]; omega)]
  · intro e _ hne
    rw [select_eq _ _ n.isLt, if_neg]
    rw [BitVec.toNat_ofNat, Nat.mod_eq_of_lt (by omega)]
    exact fun h => hne (Fin.ext h)
  · exact fun h => absurd (Finset.mem_univ n) h

/-- The rows scaled for the device's first expert. -/
theorem pay4_apply (c : Dev nD) (x : Vec Ideal S512x256 .bf16) (p : FVec Ideal S512x32 .f32) (t : Vec Ideal S512x1 .i32) (r : Fin 512)
    (k : Fin 256) (n : Fin 32) (hn : n.val = 2 * c.val) :
    k0_pay4 (F := Ideal) (myW c) (k0_pay1 x) p t (ix2 r k) = if (t (ix2 r 0)).toNat = n.val then p (ix2 r n) * x (ix2 r k) else 0 := by
  pointwise [k0_pay4, k0_pay3, k0_pay1]
  rw [(expert_word c).1, ← hn, pick n fun e => p (ix2 r e), select_eq _ _ n.isLt]

/-- The rows scaled for the device's second expert. -/
theorem pay5_apply (c : Dev nD) (x : Vec Ideal S512x256 .bf16) (p : FVec Ideal S512x32 .f32) (t : Vec Ideal S512x1 .i32) (r : Fin 512)
    (k : Fin 256) (n : Fin 32) (hn : n.val = 2 * c.val + 1) :
    k0_pay5 (F := Ideal) (myW c) (k0_pay1 x) p t (ix2 r k) = if (t (ix2 r 0)).toNat = n.val then p (ix2 r n) * x (ix2 r k) else 0 := by
  pointwise [k0_pay5, k0_pay3, k0_pay1]
  rw [(expert_word c).2, ← hn, pick n fun e => p (ix2 r e), select_eq _ _ n.isLt]

/-- The two experts' weights, laid one after the other. -/
theorem pay6_apply (E : Vec Ideal S2x256x512 .bf16) (j o : Fin 512) :
    k0_pay6 (F := Ideal) E (ix2 j o) = E (ix3 ⟨j.val / 256, by omega⟩ ⟨j.val % 256, by omega⟩ o) := by
  pointwise [k0_pay6]

/-- A block's product with the weights. -/
theorem pay7_apply (x : Vec Ideal S128x512 .bf16) (w : Vec Ideal S512x512 .bf16) (r : Fin 128) (o : Fin 512) :
    k0_pay7 (F := Ideal) x w (ix2 r o) = ∑ j : Fin 512, x (ix2 r j) * w (ix2 j o) := by
  pointwise [k0_pay7]

/-- The shared product plus the sum of the sixteen parts. -/
theorem pay13_apply (x : Vec Ideal S32x256 .bf16) (w : Vec Ideal S256x512 .bf16) (v : Vec Ideal S16x32x512 .bf16) (r : Fin 32) (o : Fin 512) :
    k0_pay13 (F := Ideal) (k0_pay11 x w) v (ix2 r o) = (∑ k : Fin 256, x (ix2 r k) * w (ix2 k o)) + ∑ c : Fin 16, v (ix3 c r o) := by
  pointwise [k0_pay13, k0_pay11]

/-! ## The buffers at an index -/

section Buffers

variable (m : (ℓ : Loc nD τ sig) → Buf (Elt Ideal) ℓ) (ρ : Dev nD → PrngReg) (c : Dev nD)

/-- The probabilities of the tokens, of what device `c` staged. -/
def probC (r : Fin 512) (e : Fin 32) : EReal :=
  Cert.Layer.prob (fun r k => xstg m ρ c (ix2 r k)) (fun k e => rwstg m ρ c (ix2 k e)) r e

/-- A scaled token: column `j` belongs to the device's expert `j / 256` and to entry `j % 256` of the token. -/
theorem xgC_apply (r j : Fin 512) : xgC m ρ c (ix2 r j)
    = if (idxstg m ρ c (ix2 r 0)).toNat = 2 * c.val + j.val / 256 then
        probC m ρ c r ⟨2 * c.val + j.val / 256, by have h : c.val < 16 := c.isLt; omega⟩ * xstg m ρ c (ix2 r ⟨j.val % 256, by omega⟩)
      else 0 := by
  have h16 : c.val < 16 := c.isLt
  by_cases h : j.val < 256
  · refine (dif_pos h).trans ?_
    have hk : (⟨j.val % 256, by omega⟩ : Fin 256) = ⟨j.val, h⟩ := Fin.ext (Nat.mod_eq_of_lt h)
    rw [hk]
    refine (pay4_apply c _ _ _ r ⟨j.val, h⟩ ⟨2 * c.val + j.val / 256, by omega⟩ (by show 2 * c.val + j.val / 256 = _; omega)).trans ?_
    rw [pay2_apply]
    rfl
  · refine (dif_neg h).trans ?_
    have hk : (⟨j.val % 256, by omega⟩ : Fin 256) = ⟨j.val - 256, by omega⟩ := Fin.ext (by show j.val % 256 = j.val - 256; omega)
    rw [hk]
    refine (pay5_apply c _ _ _ r ⟨j.val - 256, by omega⟩ ⟨2 * c.val + j.val / 256, by omega⟩
      (by show 2 * c.val + j.val / 256 = _; omega)).trans ?_
    rw [pay2_apply]
    rfl

/-- A row of the partial result is the device's share of the layer, where the device holds its two experts of `E`. -/
theorem accC_apply (E : Fin 32 → Fin 256 → Fin 512 → EReal)
    (hE : ∀ (a : Fin 2) (k : Fin 256) (o : Fin 512),
      ewstg m ρ c (ix3 a k o) = E ⟨2 * c.val + a.val, by have h : c.val < 16 := c.isLt; omega⟩ k o)
    (r o : Fin 512) (h : (idxstg m ρ c (ix2 r 0)).toNat < 32) :
    accC m ρ c (ix2 r o)
      = Cert.Layer.share (probC m ρ c r) ⟨(idxstg m ρ c (ix2 r 0)).toNat, h⟩ (fun k => xstg m ρ c (ix2 r k)) (fun e k => E e k o) c := by
  refine (pay7_apply _ _ ⟨r.val % 128, Nat.mod_lt _ (by decide)⟩ o).trans ?_
  refine Finset.sum_congr rfl fun j _ => ?_
  refine congrArg₂ (· * ·) ?_ ?_
  · have hr : (⟨128 * (r.val / 128) + r.val % 128, by omega⟩ : Fin 512) = r := Fin.ext (Nat.div_add_mod _ _)
    refine Eq.trans ?_ (xgC_apply m ρ c r j)
    exact congrArg (fun q : Fin 512 => xgC m ρ c (ix2 q j)) hr
  · exact (pay6_apply _ j o).trans (hE _ _ _)

/-- What device `c` writes for its token `r`, where every device staged the same tokens. -/
theorem outC_apply (X : Fin 512 → Fin 256 → EReal) (P : Fin 32 → EReal) (t : Fin 32) (E : Fin 32 → Fin 256 → Fin 512 → EReal)
    (r : Fin 32) (o R : Fin 512) (hR : R.val = 32 * c.val + r.val)
    (hX : ∀ (d : Dev nD) (r : Fin 512) (k : Fin 256), xstg m ρ d (ix2 r k) = X r k)
    (hP : ∀ d : Dev nD, probC m ρ d R = P)
    (ht : ∀ d : Dev nD, (idxstg m ρ d (ix2 R 0)).toNat = t.val)
    (hE : ∀ (d : Dev nD) (a : Fin 2) (k : Fin 256) (o : Fin 512),
      ewstg m ρ d (ix3 a k o) = E ⟨2 * d.val + a.val, by have h : d.val < 16 := d.isLt; omega⟩ k o)
    (hp : ∃ q : ℝ, 0 ≤ q ∧ P t = q) :
    outC m ρ c (ix2 r o)
      = (∑ k : Fin 256, X R k * swstg m ρ c (ix2 k o)) + P t * ∑ k : Fin 256, X R k * E t k o := by
  have h16 : c.val < 16 := c.isLt
  have hR' : (⟨32 * c.val + r.val, by omega⟩ : Fin 512) = R := Fin.ext hR.symm
  refine (pay13_apply _ _ _ r o).trans (congrArg₂ (· + ·) ?_ ?_)
  · refine Finset.sum_congr rfl fun k _ => congrArg (· * swstg m ρ c (ix2 k o)) ?_
    refine Eq.trans ?_ (hX c R k)
    exact congrArg (fun q : Fin 512 => xstg m ρ c (ix2 q k)) hR'
  · refine Eq.trans ?_ (Cert.Layer.sum_share P t (X R) (fun e k => E e k o) hp)
    refine Finset.sum_congr rfl fun d _ => ?_
    have e : commC m ρ c (ix3 d r o) = accC m ρ d (ix2 R o) := congrArg (fun q : Fin 512 => accC m ρ d (ix2 q o)) hR'
    refine e.trans ((accC_apply m ρ d E (hE d) R o (by rw [ht d]; exact t.isLt)).trans ?_)
    have hx : (fun k => xstg m ρ d (ix2 R k)) = X R := funext (hX d R)
    have hi : (⟨(idxstg m ρ d (ix2 R 0)).toNat, by rw [ht d]; exact t.isLt⟩ : Fin 32) = t := Fin.ext (ht d)
    rw [hP d, hx, hi]

end Buffers

end Cert.KernelIdeal.Moe

end

end
-- ==== Proof.Ref.lean ====
/-
# The reference at an index

The reference's result for token `r` and output `o`, when the token's route is an expert: the shared product plus the
probability of the expert times the product with it.
-/
module

public import proofs.«01_k».proof.Proof.Layer
public import proofs.«01_k».proof.Proof.Gen.ReferenceIdeal.Run
public import Idealize.ShloMosaic.Lib.StableHlo.Predicate

@[expose] public section

set_option maxRecDepth 16384

noncomputable section

namespace Cert.ReferenceIdeal.Moe

open Cert.ReferenceIdeal Cert.ReferenceIdeal.Gen
open Idealize.ShloMosaic Idealize.ShloMosaic.TcCoe Idealize.SL.Sem

/-! ## The result as a composition of operations -/

/-- The scores. -/
def scores (x : FVec Ideal S512x256 .bf16) (w : FVec Ideal S256x32 .bf16) : FVec Ideal S512x32 .f32 :=
  Host.dotGeneral dot_S512x256_S256x32_S512x32_1_0_0_1_n_n none (extf .f32 x bitsLt_bf16_f32) (extf .f32 w bitsLt_bf16_f32)

/-- The exponentials relative to the greatest score of each token. -/
def weights (x : FVec Ideal S512x256 .bf16) (w : FVec Ideal S256x32 .bf16) : FVec Ideal S512x32 .f32 :=
  Host.exp (subf (scores x w) (broadcastInDim S512x32 ![0, 1] bcast_S512x1_S512x32_0_1 (broadcastInDim S512x1 ![0] bcast_S512_S512x1_0
    (Host.reduce FloatOps.maximumf (scores x w) (constant S_ .f32 0xFF800000#32) reducesTo_S512x32_S512_d1 h_S_))))

/-- The probabilities. -/
def probs (x : FVec Ideal S512x256 .bf16) (w : FVec Ideal S256x32 .bf16) : FVec Ideal S512x32 .f32 :=
  Host.divf (weights x w) (broadcastInDim S512x32 ![0, 1] bcast_S512x1_S512x32_0_1 (broadcastInDim S512x1 ![0] bcast_S512_S512x1_0
    (Host.reduceAdd (weights x w) (constant S_ .f32 0x00000000#32) reducesTo_S512x32_S512_d1 h_S_)))

/-- The routes as positions along the probabilities, a negative one counted from the end. -/
def places (t : IVec S512x1 32) : IVec S512x1x1 32 :=
  shapeCast _ (select (cmpi .slt t (broadcastInDim S512x1 ![] bcast_S_S512x1 (constantI S_ 32 0#32)))
    (addi t (broadcastInDim S512x1 ![] bcast_S_S512x1 (constantI S_ 32 32#32))) t) shapeCasts_S512x1_S512x1x1

/-- Whether a position is in range. -/
def inRange (t : IVec S512x1 32) : IVec S512x1 1 :=
  Host.reduce IntOp.andi (andi (cmpi .sge (places t) (broadcastInDim S512x1x1 ![] bcast_S_S512x1x1 (constantI S_ 32 0#32)))
    (cmpi .sle (places t) (broadcastInDim S512x1x1 ![0, 1, 2] bcast_S1x1x1_S512x1x1_0_1_2 (broadcastInDim S1x1x1 ![2] bcast_S1_S1x1x1_2 (constantI S1 32 31#32)))))
    (constantI S_ 1 1#1) reducesTo_S512x1x1_S512x1_d2 h_S_

/-- Each token's probability of its route. -/
def gate (x : FVec Ideal S512x256 .bf16) (w : FVec Ideal S256x32 .bf16) (t : IVec S512x1 32) : FVec Ideal S512x1 .f32 :=
  select (inRange t) (Host.gather gather_S512x32_S512x1x1_S512x1_n_1_0_0_1_2_11 (probs x w) (places t))
    (broadcastInDim S512x1 ![] bcast_S_S512x1 (constant S_ .f32 0x7FC00000#32))

/-- The routes as places in the stack of experts. -/
def rows (t : IVec S512x1 32) : IVec S512x1 32 :=
  broadcastInDim S512x1 ![0] bcast_S512_S512x1_0 (select (cmpi .slt (shapeCast S512 t shapeCasts_S512x1_S512) (broadcastInDim S512 ![] bcast_S_S512 (constantI S_ 32 0#32)))
    (addi (shapeCast S512 t shapeCasts_S512x1_S512) (broadcastInDim S512 ![] bcast_S_S512 (constantI S_ 32 32#32))) (shapeCast S512 t shapeCasts_S512x1_S512))

/-- Each token's expert. -/
def routed (t : IVec S512x1 32) (E : FVec Ideal S32x256x512 .bf16) : FVec Ideal S512x256x512 .f32 :=
  Host.gather gather_S32x256x512_S512x1_S512x256x512_12_0_n_n_0_1_1256512 (extf .f32 E bitsLt_bf16_f32) (rows t)

/-- The result. -/
def result (x : FVec Ideal S512x256 .bf16) (w : FVec Ideal S256x32 .bf16) (t : IVec S512x1 32) (E : FVec Ideal S32x256x512 .bf16)
    (s : FVec Ideal S256x512 .bf16) : FVec Ideal S512x512 .f32 :=
  addf (Host.dotGeneral dot_S512x256_S256x512_S512x512_1_0_0_1_n_n none (extf .f32 x bitsLt_bf16_f32) (extf .f32 s bitsLt_bf16_f32))
    (mulf (broadcastInDim S512x512 ![0, 1] bcast_S512x1_S512x512_0_1 (gate x w t))
      (Host.dotGeneral dot_S512x256_S512x256x512_S512x512_1_1_n_2_0_0 none (extf .f32 x bitsLt_bf16_f32) (routed t E)))

/-- The reference ends with `result` of its arguments, and the arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

/-! ## At an index -/

/-- The probabilities are the layer's. -/
theorem probs_apply (x : FVec Ideal S512x256 .bf16) (w : FVec Ideal S256x32 .bf16) (r : Fin 512) (e : Fin 32) :
    probs x w (ix2 r e) = Cert.Layer.prob (fun r k => x (ix2 r k)) (fun k e => w (ix2 k e)) r e := by
  pointwise [probs, weights, scores, Cert.Layer.prob, Cert.Layer.weight, Cert.Layer.top, Cert.Layer.score]

/-- A word below thirty-two reads the same signed and unsigned. -/
theorem toInt_small (t : BitVec 32) (h : t.toNat < 32) : t.toInt = t.toNat :=
  StableHlo.Predicate.toInt_eq_toNat_of_lt (by omega)

/-- A route below thirty-two is not moved. -/
theorem wrap_eq (t : BitVec 32) (h : t.toNat < 32) :
    Scalar.select (IntOp.cmpi .slt t 0#32) (IntOp.addi t 32#32) t = t := by
  have hs : t.slt 0#32 = false := by
    rw [BitVec.slt_eq_decide, toInt_small t h]; simp
  simp [IntOp.cmpi, Scalar.select, hs]

/-- A route below thirty-two is in range. -/
theorem range_eq (t : BitVec 32) (h : t.toNat < 32) : IntOp.andi (IntOp.cmpi .sge t 0#32) (IntOp.cmpi .sle t 31#32) = 1#1 := by
  have h₁ : (0#32).sle t = true := by
    rw [BitVec.sle_eq_decide, toInt_small t h]; simp
  have h₂ : t.sle 31#32 = true := by
    rw [BitVec.sle_eq_decide, toInt_small t h]; simp; omega
  simp [IntOp.cmpi, IntOp.andi, h₁, h₂]

/-- The position read for token `r` is its route. -/
theorem places_apply (t : IVec S512x1 32) (r : Fin 512) (h : (t (ix2 r 0)).toNat < 32) : places t (ix3 r 0 0) = t (ix2 r 0) := by
  pointwise [places]
  exact wrap_eq _ h

/-- The row of experts read for token `r` is its route's. -/
theorem rows_apply (t : IVec S512x1 32) (r : Fin 512) (h : (t (ix2 r 0)).toNat < 32) : rows t (ix2 r 0) = t (ix2 r 0) := by
  pointwise [rows]
  exact wrap_eq _ h

/-- A route below thirty-two passes the test of its range. -/
theorem inRange_apply (t : IVec S512x1 32) (r : Fin 512) (h : (t (ix2 r 0)).toNat < 32) : inRange t (ix2 r 0) = 1#1 := by
  pointwise [inRange]
  rw [Finset.univ_unique, Finset.fold_singleton]
  refine (congrArg (IntOp.andi · 1#1) ?_).trans (by decide : IntOp.andi 1#1 1#1 = 1#1)
  rw [show (default : Fin 1) = 0 from rfl, places_apply t r h]
  exact range_eq _ h

/-- A small word read signed and held below the last position is itself. -/
theorem min_small (t : BitVec 32) (h : t.toNat < 32) : min t.toInt.toNat 31 = t.toNat := by
  rw [toInt_small t h]; simp; omega

/-- The probability read for token `r` is the one at its position. -/
theorem gather_prob (p : FVec Ideal S512x32 .f32) (q : IVec S512x1x1 32) (r : Fin 512) (h : (q (ix3 r 0 0)).toNat < 32) :
    Host.gather gather_S512x32_S512x1x1_S512x1_n_1_0_0_1_2_11 p q (ix2 r 0) = p (ix2 r ⟨(q (ix3 r 0 0)).toNat, h⟩) := by
  have hI : gather_S512x32_S512x1x1_S512x1_n_1_0_0_1_2_11.siIdx (ix2 r 0) ⟨0, by decide⟩ = ix3 r 0 0 :=
    funext fun b => by fin_cases b <;> rfl
  refine congrArg p (funext fun a => Fin.ext ?_)
  fin_cases a
  · exact Nat.zero_add _
  · show min (q (gather_S512x32_S512x1x1_S512x1_n_1_0_0_1_2_11.siIdx (ix2 r 0) ⟨0, by decide⟩)).toInt.toNat 31 = (q (ix3 r 0 0)).toNat
    rw [hI, min_small _ h]

/-- The expert read for token `r` is the one its place names. -/
theorem gather_expert (E : FVec Ideal S32x256x512 .f32) (q : IVec S512x1 32) (r : Fin 512) (k : Fin 256) (o : Fin 512)
    (h : (q (ix2 r 0)).toNat < 32) :
    Host.gather gather_S32x256x512_S512x1_S512x256x512_12_0_n_n_0_1_1256512 E q (ix3 r k o) = E (ix3 ⟨(q (ix2 r 0)).toNat, h⟩ k o) := by
  have hI : gather_S32x256x512_S512x1_S512x256x512_12_0_n_n_0_1_1256512.siIdx (ix3 r k o) ⟨0, by decide⟩ = ix2 r 0 :=
    funext fun b => by fin_cases b <;> rfl
  refine congrArg E (funext fun a => Fin.ext ?_)
  fin_cases a
  · show min (q (gather_S32x256x512_S512x1_S512x256x512_12_0_n_n_0_1_1256512.siIdx (ix3 r k o) ⟨0, by decide⟩)).toInt.toNat 31 = (q (ix2 r 0)).toNat
    rw [hI, min_small _ h]
  · exact Nat.zero_add _
  · exact Nat.zero_add _

/-- The gate of token `r` is the probability of its route. -/
theorem gate_apply (x : FVec Ideal S512x256 .bf16) (w : FVec Ideal S256x32 .bf16) (t : IVec S512x1 32) (r : Fin 512)
    (h : (t (ix2 r 0)).toNat < 32) :
    gate x w t (ix2 r 0) = Cert.Layer.prob (fun r k => x (ix2 r k)) (fun k e => w (ix2 k e)) r ⟨(t (ix2 r 0)).toNat, h⟩ := by
  pointwise [gate]
  have hp := places_apply t r h
  rw [inRange_apply t r h, gather_prob _ _ r (by rw [hp]; exact h), probs_apply]
  simp only [hp]
  rfl

/-- The expert of token `r` is its route's. -/
theorem routed_apply (t : IVec S512x1 32) (E : FVec Ideal S32x256x512 .bf16) (r : Fin 512) (k : Fin 256) (o : Fin 512)
    (h : (t (ix2 r 0)).toNat < 32) : routed t E (ix3 r k o) = E (ix3 ⟨(t (ix2 r 0)).toNat, h⟩ k o) := by
  have hp := rows_apply t r h
  unfold routed
  rw [gather_expert _ _ r k o (by rw [hp]; exact h)]
  simp only [hp]
  rfl

/-- The reference's result for token `r` and output `o`. -/
theorem result_apply (x : FVec Ideal S512x256 .bf16) (w : FVec Ideal S256x32 .bf16) (t : IVec S512x1 32) (E : FVec Ideal S32x256x512 .bf16)
    (s : FVec Ideal S256x512 .bf16) (r o : Fin 512) (h : (t (ix2 r 0)).toNat < 32) :
    result x w t E s (ix2 r o) = (∑ k : Fin 256, x (ix2 r k) * s (ix2 k o))
      + Cert.Layer.prob (fun r k => x (ix2 r k)) (fun k e => w (ix2 k e)) r ⟨(t (ix2 r 0)).toNat, h⟩
        * ∑ k : Fin 256, x (ix2 r k) * E (ix3 ⟨(t (ix2 r 0)).toNat, h⟩ k o) := by
  pointwise [result]
  rw [gate_apply x w t r h]
  simp only [routed_apply t E r _ o h]

end Cert.ReferenceIdeal.Moe

end

end
-- ==== Proof.Pre.lean ====
/-
# The precondition, read

The printed precondition is all ones exactly where every route names one of the thirty-two experts and the operands of
the router's scores are finite.
-/
module

public import proofs.«01_k».proof.Pre_routed_and_finite_KernelIdeal
public import proofs.«01_k».proof.Pre_routed_and_finite_ReferenceIdeal
public import Idealize.ShloMosaic.Lib.Pointwise
public import Idealize.ShloMosaic.Lib.StableHlo.Predicate

@[expose] public section

set_option maxRecDepth 16384

noncomputable section

namespace Cert.Pre_routed_and_finite_KernelIdeal

open Idealize.ShloMosaic

/-- The side conditions of the precondition at the kernel's shapes. -/
theorem facts : Facts where
  bcast_S_S512x1 := by decide
  bcast_S_S512x256 := by decide
  bcast_S512x1_S512x256_0_1 := by decide
  bcast_S_S256x32 := by decide
  reducesTo_S256x32_S_d0_1 := by decide
  h_S_ := by decide

attribute [local instance] facts

/-- Two bits are both set where their conjunction is. -/
theorem andi_one (a b : BitVec 1) (h : IntOp.andi a b = 1#1) : a = 1#1 ∧ b = 1#1 := by
  revert a b
  decide

/-- Every bit of a conjunction that is set is set. -/
theorem fold_andi_one {ι : Type} (s : Finset ι) (f : ι → BitVec 1) (h : Finset.fold IntOp.andi 1#1 f s = 1#1) (i : ι) (hi : i ∈ s) :
    f i = 1#1 := by
  classical
  revert hi
  induction s using Finset.induction_on with
  | empty => exact fun hi => absurd hi (Finset.notMem_empty i)
  | insert a s ha ih =>
    rw [Finset.fold_insert ha] at h
    intro hi
    rcases Finset.mem_insert.1 hi with rfl | hi
    · exact (andi_one _ _ h).1
    · exact ih (andi_one _ _ h).2 hi

/-- The word of plus infinity denotes the greatest extended real. -/
theorem posInf : Ideal.ofBits .bf16 0x7F80#16 = ⊤ := by
  simp [Ideal.ofBits, Ideal.ieee]

/-- An extended real of magnitude below infinity is a real number. -/
theorem real_of_abs (a : EReal) (h : BitVec.ofBool (decide (FloatOps.absf (F := Ideal) (φ := .bf16) a < Ideal.ofBits .bf16 0x7F80#16)) = 1#1) :
    ∃ q : ℝ, a = q := by
  rw [StableHlo.Predicate.ofBool_eq_one_iff, decide_eq_true_iff, posInf] at h
  have h' : max a (-a) < ⊤ := h
  induction a with
  | bot => simp at h'
  | top => simp at h'
  | coe q => exact ⟨q, rfl⟩

/-- A word between zero and thirty-two in the signed order holds a number below thirty-two. -/
theorem small_of_range (t : BitVec 32) (h₀ : IntOp.cmpi .sge t 0#32 = 1#1) (h₁ : IntOp.cmpi .slt t 32#32 = 1#1) : t.toNat < 32 := by
  have h₀' : (0#32).sle t = true := (StableHlo.Predicate.ofBool_eq_one_iff _).1 h₀
  have h₁' : t.slt 32#32 = true := (StableHlo.Predicate.ofBool_eq_one_iff _).1 h₁
  rw [BitVec.sle_eq_decide, decide_eq_true_iff] at h₀'
  rw [BitVec.slt_eq_decide, decide_eq_true_iff] at h₁'
  have z : (0#32).toInt = 0 := by decide
  have u : (32#32).toInt = 32 := by decide
  have c := BitVec.toInt_eq_toNat_cond t
  have b := t.isLt
  rw [z] at h₀'
  rw [u] at h₁'
  split at c <;> omega

/-- What the precondition says: every route is below thirty-two, and the tokens and the router's weights are real. -/
theorem read (x : FVec Ideal S512x256 .bf16) (w : FVec Ideal S256x32 .bf16) (t : IVec S512x1 32) (E : FVec Ideal S2x256x512 .bf16)
    (s : FVec Ideal S256x512 .bf16) (h : fn (F := Ideal) x w t E s = fun _ => 1#1) :
    (∀ r : Fin 512, (t (ix2 r 0)).toNat < 32) ∧ (∀ (r : Fin 512) (k : Fin 256), ∃ q : ℝ, x (ix2 r k) = q)
      ∧ ∀ (k : Fin 256) (e : Fin 32), ∃ q : ℝ, w (ix2 k e) = q := by
  have all : ∀ (r : Fin 512) (k : Fin 256), (t (ix2 r 0)).toNat < 32 ∧ (∃ q : ℝ, x (ix2 r k) = q)
      ∧ ∀ (k : Fin 256) (e : Fin 32), ∃ q : ℝ, w (ix2 k e) = q := fun r k => by
    have hrk := congrFun h (ix2 r k)
    pointwise [fn] at hrk
    obtain ⟨ha, hw⟩ := andi_one _ _ hrk
    obtain ⟨ht, hx⟩ := andi_one _ _ ha
    obtain ⟨h₀, h₁⟩ := andi_one _ _ ht
    exact ⟨small_of_range _ h₀ h₁, real_of_abs _ hx,
      fun k e => real_of_abs _ (fold_andi_one _ _ hw (k, e) (Finset.mem_univ _))⟩
  exact ⟨fun r => (all r 0).1, fun r k => (all r k).2.1, fun k e => (all 0 0).2.2 k e⟩

end Cert.Pre_routed_and_finite_KernelIdeal

namespace Cert.Pre_routed_and_finite_ReferenceIdeal

open Idealize.ShloMosaic

/-- The side conditions of the precondition at the reference's shapes. -/
theorem facts : Facts where
  bcast_S_S512x1 := by decide
  bcast_S_S512x256 := by decide
  bcast_S512x1_S512x256_0_1 := by decide
  bcast_S_S256x32 := by decide
  reducesTo_S256x32_S_d0_1 := by decide
  h_S_ := by decide

end Cert.Pre_routed_and_finite_ReferenceIdeal

end

end
-- ==== Proof.Algebraic.lean ====
/-
# The kernel computes the layer

Over the extended reals every device's result is its block of the reference's, where every token is routed to one of
the experts and the operands of the router's scores are finite.
-/
module

public import proofs.«01_k».proof.Defs
public import proofs.«01_k».proof.Proof.Value
public import proofs.«01_k».proof.Proof.Ref
public import proofs.«01_k».proof.Proof.Pre

@[expose] public section

set_option maxRecDepth 16384

noncomputable section

namespace Cert.Proof

open Idealize.ShloMosaic Idealize.ShloMosaic.TcCoe Idealize.SL.Sem

attribute [local instance] Cert.KernelIdeal.Gen.facts Cert.ReferenceIdeal.Gen.facts
  Cert.Pre_routed_and_finite_KernelIdeal.facts

/-- Every index of an array of two axes is a pair. -/
theorem pair {n₀ n₁ : ℕ} (i : (⟨2, ![n₀, n₁]⟩ : Shape).Idx) : ∃ (a : Fin n₀) (b : Fin n₁), i = ix2 a b :=
  ⟨i 0, i 1, funext fun a => by fin_cases a <;> rfl⟩

/-- Device `c`'s result is its block of the reference's result. -/
theorem out_block (m : (ℓ : Loc Cert.KernelIdeal.nD Cert.KernelIdeal.τ Cert.KernelIdeal.sig) → Buf (Elt Ideal) ℓ)
    (g : Dev Cert.KernelIdeal.nD → PrngReg)
    (x : FVec Ideal Cert.ReferenceIdeal.S512x256 .bf16) (w : FVec Ideal Cert.ReferenceIdeal.S256x32 .bf16)
    (t : IVec Cert.ReferenceIdeal.S512x1 32) (E : FVec Ideal Cert.ReferenceIdeal.S32x256x512 .bf16)
    (s : FVec Ideal Cert.ReferenceIdeal.S256x512 .bf16)
    (hpre : Cert.Pre_KernelIdeal_routed_and_finite_KernelIdeal m)
    (h : ∀ c : Dev Cert.KernelIdeal.nD,
      m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = w
      ∧ m ((c.tc : Thread Cert.KernelIdeal.nD Cert.KernelIdeal.τ).loc Cert.KernelIdeal.main_arg2) = t
      ∧ m ((c.tc : Thread Cert.KernelIdeal.nD Cert.KernelIdeal.τ).loc Cert.KernelIdeal.main_arg3)
        = Layout.block ⟨3, ![2, 256, 512]⟩ ⟨3, ![32, 256, 512]⟩ 0 16 c E
      ∧ m ((c.tc : Thread Cert.KernelIdeal.nD Cert.KernelIdeal.τ).loc Cert.KernelIdeal.main_arg4) = s)
    (c : Dev Cert.KernelIdeal.nD) :
    Cert.KernelIdeal.Moe.outC m g c
      = Layout.block ⟨2, ![32, 512]⟩ ⟨2, ![512, 512]⟩ 0 16 c (Cert.ReferenceIdeal.Moe.result x w t E s) := by
  have hx : ∀ d, Cert.KernelIdeal.Moe.xstg m g d = x := fun d => (Cert.KernelIdeal.Moe.xstg_eq m g d).trans (h d).1
  have hw : ∀ d, Cert.KernelIdeal.Moe.rwstg m g d = w := fun d => (Cert.KernelIdeal.Moe.rwstg_eq m g d).trans (h d).2.1
  have ht : ∀ d, Cert.KernelIdeal.Moe.idxstg m g d = t := fun d => (Cert.KernelIdeal.Moe.idxstg_eq m g d).trans (h d).2.2.1
  have hE : ∀ d, Cert.KernelIdeal.Moe.ewstg m g d = Layout.block ⟨3, ![2, 256, 512]⟩ ⟨3, ![32, 256, 512]⟩ 0 16 d E :=
    fun d => (Cert.KernelIdeal.Moe.ewstg_eq m g d).trans (h d).2.2.2.1
  have hs : ∀ d, Cert.KernelIdeal.Moe.swstg m g d = s := fun d => (Cert.KernelIdeal.Moe.swstg_eq m g d).trans (h d).2.2.2.2
  have hp := hpre c
  rw [(h c).1, (h c).2.1, (h c).2.2.1] at hp
  obtain ⟨small, xreal, wreal⟩ := Cert.Pre_routed_and_finite_KernelIdeal.read _ _ _ _ _ hp
  funext i
  obtain ⟨r, o, rfl⟩ := pair i
  have h16 : c.val < 16 := c.isLt
  let R : Fin 512 := ⟨32 * c.val + r.val, by omega⟩
  have hi : Layout.block ⟨2, ![32, 512]⟩ ⟨2, ![512, 512]⟩ 0 16 c (Cert.ReferenceIdeal.Moe.result x w t E s) (by decide) (ix2 r o)
      = Cert.ReferenceIdeal.Moe.result x w t E s (ix2 R o) := by
    refine congrArg (Cert.ReferenceIdeal.Moe.result x w t E s) (funext fun a => Fin.ext ?_)
    fin_cases a
    · show c.val * 32 + r.val = 32 * c.val + r.val
      rw [Nat.mul_comm]
    · rfl
  rw [hi, Cert.ReferenceIdeal.Moe.result_apply x w t E s R o (small R)]
  refine (Cert.KernelIdeal.Moe.outC_apply m g c (fun r k => x (ix2 r k))
    (Cert.Layer.prob (fun r k => x (ix2 r k)) (fun k e => w (ix2 k e)) R) ⟨(t (ix2 R 0)).toNat, small R⟩ (fun e k o => E (ix3 e k o))
    r o R rfl (fun d r k => by rw [hx d]) (fun d => ?_) (fun d => by rw [ht d]) (fun d a k o => ?_)
    (Cert.Layer.prob_real _ _ xreal wreal R _)).trans ?_
  · funext e
    unfold Cert.KernelIdeal.Moe.probC
    rw [hx d, hw d]
  · rw [hE d]
    refine congrArg E (funext fun b => Fin.ext ?_)
    fin_cases b
    · show d.val * 2 + a.val = 2 * d.val + a.val
      rw [Nat.mul_comm]
    · rfl
    · rfl
  · rw [hs c]

/-- The kernel and the reference compute the same layer over the extended reals. -/
theorem algebraic : Cert.algebraic_KernelIdeal_ReferenceIdeal_pre_routed_and_finite_KernelIdeal := by
  intro m g m' g' hpre h
  refine ⟨_, (θ_run Cert.KernelIdeal.defs _ _).mono (fun r hr c => ?_) (Cert.KernelIdeal.Moe.run_value m g),
    (θ_run Cert.ReferenceIdeal.defs _ _).mono (fun r hr => hr 0) (Cert.ReferenceIdeal.Moe.run_result m' g')⟩
  exact ⟨(hr c).1.trans (out_block m g _ _ _ _ _ hpre h c), (hr c).2⟩

end Cert.Proof

end

end
-- ==== Proof.lean ====
/-
# The claims

Each claim is read off the run of its program.
-/
module

public import proofs.«01_k».proof.Proof.Gen.ReferenceIdeal.Run
public import proofs.«01_k».proof.Defs
public import proofs.«01_k».proof.Proof.Final
public import proofs.«01_k».proof.Proof.K.Final
public import proofs.«01_k».proof.Proof.Algebraic
public import Idealize.ShloMosaic.Adequacy
public import Idealize.ShloMosaic.Init

@[expose] public section

noncomputable section

namespace Cert.Proof

open Idealize.ShloMosaic Idealize.SL.Sem

/-- The kernel's frame: it runs, leaves its arguments and ends with every counter at zero. -/
theorem frame_Kernel : Cert.quiescent_Kernel :=
  fun m g _ => Cert.Kernel.Moe.run_frame m g

/-- The idealised kernel's frame. -/
theorem frame_KernelIdeal : Cert.quiescent_KernelIdeal :=
  fun m g _ => Cert.KernelIdeal.Moe.run_frame m g

/-- The reference's frame; it declares no counter. -/
theorem frame_ReferenceIdeal : Cert.quiescent_ReferenceIdeal :=
  fun m g _ => (θ_run Cert.ReferenceIdeal.defs _ _).mono (fun r h => ⟨fun c => (h c).2,
    Idealize.ShloMosaic.sem_eq_zero_of_no_sems (by decide) r.2⟩) (Cert.ReferenceIdeal.Value.run m g)

/-- All the claims; a frame under the precondition is a case of the frame without one, and nothing was rewritten. -/
theorem claim : Cert.Claim := ⟨Cert.Kernel.Gen.facts, Cert.KernelIdeal.Gen.facts, Cert.ReferenceIdeal.Gen.facts,
  Cert.Pre_routed_and_finite_KernelIdeal.facts, Cert.Pre_routed_and_finite_ReferenceIdeal.facts,
  frame_Kernel, frame_KernelIdeal, fun m g _ => frame_KernelIdeal m g trivial,
  frame_ReferenceIdeal, fun m g _ => frame_ReferenceIdeal m g trivial, trivial, algebraic⟩

end Cert.Proof

end
